-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000x64 : Shape := ⟨2, ![1000, 64]⟩
abbrev S128x64 : Shape := ⟨2, ![128, 64]⟩
abbrev S128 : Shape := ⟨1, ![128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000x64 .f32) (main_arg2 : FVec F S128x64 .f32) (main_arg3 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000x64 : Shape := ⟨2, ![1000, 64]⟩
abbrev S128x64 : Shape := ⟨2, ![128, 64]⟩
abbrev S128 : Shape := ⟨1, ![128]⟩
abbrev S64x1000 : Shape := ⟨2, ![64, 1000]⟩
abbrev S64x128 : Shape := ⟨2, ![64, 128]⟩
abbrev S1x128 : Shape := ⟨2, ![1, 128]⟩
abbrev S1000x128 : Shape := ⟨2, ![1000, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S40x128 : Shape := ⟨2, ![40, 128]⟩
abbrev S64 : Shape := ⟨1, ![64]⟩

abbrev nBuf : Table → Nat
  | .hbm => 9
  | .local .tc .vmem => 4
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1000x64, .f32⟩
  | .hbm, ⟨2, _⟩ => ⟨S128x64, .f32⟩
  | .hbm, ⟨3, _⟩ => ⟨S128, .f32⟩
  | .hbm, ⟨4, _⟩ => ⟨S64x1000, .f32⟩
  | .hbm, ⟨5, _⟩ => ⟨S64x128, .f32⟩
  | .hbm, ⟨6, _⟩ => ⟨S1x128, .f32⟩
  | .hbm, ⟨7, _⟩ => ⟨S1000x128, .f32⟩
  | .hbm, ⟨8, _⟩ => ⟨S16384x128, .f32⟩
  | .local .tc .vmem, ⟨0, _⟩ => ⟨S64x1000, .f32⟩
  | .local .tc .vmem, ⟨1, _⟩ => ⟨S64x128, .f32⟩
  | .local .tc .vmem, ⟨2, _⟩ => ⟨S1x128, .f32⟩
  | .local .tc .vmem, ⟨3, _⟩ => ⟨S1000x128, .f32⟩
  | .shared, ⟨0, _⟩ => ⟨S1000x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 5 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v3_scv : Ref sig .scVector := ⟨.hbm, 7, rfl⟩
abbrev main_arg0_scv : Ref sig .scVector := ⟨.hbm, 0, rfl⟩
abbrev main_v4_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S64x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_cond1 (i : grid1.Coords) : BitVec 1 :=
  let arg1 : BitVec 32 := BitVec.ofNat 32 (i 1).val
  let c15_i32 : BitVec 32 := 15#32
  let v5 : BitVec 1 := Scalar.cmpi .slt arg1 c15_i32
  let v6 : BitVec 32 := Scalar.extui v5
  let c0_i32 : BitVec 32 := 0#32
  let v7 : BitVec 1 := Scalar.cmpi .ne v6 c0_i32
  v7

def k1_off2 (i : grid1.Coords) : Fin 2 → Nat :=
  let arg1 : BitVec 32 := BitVec.ofNat 32 (i 1).val
  let c64_i32_180 : BitVec 32 := 64#32
  let v134 : BitVec 32 := Scalar.muli arg1 c64_i32_180
  let c0_i32_181_r0 : BitVec 32 := 0#32
  ![v134.toNat, 0]
def k1_off3 (i : grid1.Coords) (c0_i32_40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v40 : BitVec 32 := Scalar.addi v2 c0_i32_40
  let c0_i32_43 : BitVec 32 := 0#32
  ![v40.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000x64 : Shape := ⟨2, ![1000, 64]⟩
abbrev S128x64 : Shape := ⟨2, ![128, 64]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S64x128 : Shape := ⟨2, ![64, 128]⟩
abbrev S16384x128 : Shape := ⟨2, ![16384, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x64, .f32⟩
  | .hbm, ⟨2, _⟩ => ⟨S128x64, .f32⟩
  | .hbm, ⟨3, _⟩ => ⟨S128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S_, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S64x128, .f32⟩
  | .hbm, ⟨37, _⟩ => ⟨S16384x128, .f32⟩
  | .hbm, ⟨38, _⟩ => ⟨S1x128, .f32⟩
  | .hbm, ⟨39, _⟩ => ⟨S16384x128, .f32⟩
  | .hbm, ⟨40, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.IdealSetup.lean ====
/-
  What the launch of the kernel is proved over: the contents the run is to leave behind (the fused table, the rows
  looked up in it), the ghost state (the launch handshakes', the subcore barrier's and the staging cells' round
  libraries, the transfers' counters), the barrier's schedule, and what each handshake of the SparseCore call carries.

  Both SparseCores run the call, sixteen tiles each. A tile stages its own rows of the table into its SparseCore's
  shared memory, meets the other fifteen at the barrier, then looks up its 512 rows. So what the barrier carries is
  READ SHARES: tile `n` hands every tile `j` the `j`-th of sixteen pieces of its own rows, written; and what a tile
  collects from the sixteen is one piece of the whole table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.ProtocolKit
public import Idealize.ShloMosaic.Lib.StableHlo.Run
public import Idealize.ShloMosaic.Lib.Pipeline.Kit
public import Idealize.ShloMosaic.Lib.Ring
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl
theorem nSub_eq : τ.nSub = 16 := rfl
theorem nSC_eq : τ.nSC = 2 := rfl

/-- The launch's four semaphores are apart and none of them is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev uE : Emb UU (MT nD τ sig (HIx 1) (Elt F) ℕ UU ℕ) :=
  (uEmb (nD := nD) (sig := sig) (Ix := HIx 1) (Val := Elt F) (Name := ℕ) (U := UU) (Lvl := ℕ)).toEmb
/-- The launch handshakes' rounds. -/
abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans uE
instance EB_landsIn : (EB : Emb UB 𝕄).LandsIn (upEmb : UEmb _ 𝕄) := by unfold EB; infer_instance
/-- The rounds of the TensorCore kernel's staging cells. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans uE
instance EP_landsIn : (EP : Emb UP 𝕄).LandsIn (upEmb : UEmb _ 𝕄) := by unfold EP; infer_instance

/-! ## The launch memory, the arrays, and what the run leaves in them -/

variable (m : (ℓ : Loc nD τ sig) → Buf (Elt F) ℓ)

abbrev ixLoc (d : Dev nD) : Loc nD τ sig := (SparseCore.T d).loc main_arg0
abbrev embLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev tabLoc (d : Dev nD) : Loc nD τ sig := (SparseCore.T d).loc main_v3
abbrev outLoc (d : Dev nD) : Loc nD τ sig := (SparseCore.T d).loc main_v4
/-- The shared memory of SparseCore `c`: one buffer for its sixteen tiles. -/
abbrev shRef (c : Fin τ.nSC) : DevRef τ sig := ⟨.shared, ⟨0, by decide⟩, c⟩
abbrev shLoc (d : Dev nD) (c : Fin τ.nSC) : Loc nD τ sig := (d, shRef c)

/-- The fused table: row `r` is the activated embedding row `r` times the transposed weights, plus the bias. -/
def tabV (e : FVec F S1000x64 .f32) (w : FVec F S128x64 .f32) (b : FVec F S128 .f32) : FVec F S1000x128 .f32 :=
  k0_pay1 (transpose S64x1000 [1, 0] e transposes_S1000x64_S64x1000_1_0) (transpose S64x128 [1, 0] w transposes_S128x64_S64x128_1_0)
    (shapeCast S1x128 b shapeCasts_S128_S1x128)

/-- The table row an index names (every index of the run names one; the reduction only makes the row total). -/
def rowOf (v : BitVec 32) : Fin 1000 := ⟨v.toNat % 1000, Nat.mod_lt _ (by decide)⟩
theorem rowOf_val {v : BitVec 32} (h : v.toNat < 1000) : (rowOf v).val = v.toNat := Nat.mod_eq_of_lt h

/-- The position `(r, l)` of the table. -/
def tabIx (r : Fin 1000) (l : Fin 128) : S1000x128.Idx := fun a => match a with | 0 => r | 1 => l
/-- Position `n` of the index array. -/
def ixIx (n : Fin 16384) : S16384.Idx := fun a => match a with | 0 => n
/-- Row `n` of the result is the table row the `n`-th index names. -/
def lookV (t : Vec F S16384 .i32) (g : FVec F S1000x128 .f32) : FVec F S16384x128 .f32 :=
  fun x => g (tabIx (rowOf (t (ixIx (x 0)))) (x 1))

abbrev tab (d : Dev nD) : Buf (Elt F) (tabLoc d) := tabV (m (embLoc d)) (m (wLoc d)) (m (bLoc d))
abbrev outG (d : Dev nD) : Buf (Elt F) (outLoc d) := lookV (m (ixLoc d)) (tab m d)
/-- The same table, as contents of the shared memory. -/
abbrev shTab (d : Dev nD) (c : Fin τ.nSC) : Buf (Elt F) (shLoc d c) := tab m d

/-- Every index names a row of the table. -/
def InRange : Prop := ∀ (d : Dev nD) (x : S16384.Idx), (m (ixLoc d) x : BitVec 32).toNat < 1000

/-! ## Who works on which elements -/

/-- The rows of the shared table that tile `i` stages: 64 of them, the last tile the remaining 40. -/
def shRows (i : Fin 16) : Finset S1000x128.Idx := Finset.univ.filter fun x => (x 0).val / 64 = i.val
theorem mem_shRows {i : Fin 16} {x : S1000x128.Idx} : x ∈ shRows i ↔ (x 0).val / 64 = i.val := by simp [shRows]
theorem shRows_disjoint : ∀ i ∈ (Finset.univ : Finset (Fin 16)), ∀ j ∈ (Finset.univ : Finset (Fin 16)), i ≠ j → Disjoint (shRows i) (shRows j) :=
  fun i _ j _ h => Finset.disjoint_left.mpr fun x hx hy => h (Fin.ext ((mem_shRows.mp hx).symm.trans (mem_shRows.mp hy)))
theorem shRows_cover : (Finset.univ : Finset (Fin 16)).biUnion shRows = Finset.univ := by
  refine Finset.eq_univ_of_forall fun x => Finset.mem_biUnion.mpr ?_
  have h : (x 0).val < 1000 := (x 0).isLt
  exact ⟨⟨(x 0).val / 64, by omega⟩, Finset.mem_univ _, mem_shRows.mpr rfl⟩

/-- The 512 rows of the result that tile `i` of SparseCore `c` writes. -/
def outRows (ci : Fin 2 × Fin 16) : Finset S16384x128.Idx := Finset.univ.filter fun x => (x 0).val / 512 = 2 * ci.2.val + ci.1.val
theorem mem_outRows {ci : Fin 2 × Fin 16} {x : S16384x128.Idx} : x ∈ outRows ci ↔ (x 0).val / 512 = 2 * ci.2.val + ci.1.val := by simp [outRows]
theorem outRows_disjoint : ∀ a ∈ (Finset.univ : Finset (Fin 2 × Fin 16)), ∀ b ∈ (Finset.univ : Finset (Fin 2 × Fin 16)), a ≠ b → Disjoint (outRows a) (outRows b) :=
  fun a _ b _ h => Finset.disjoint_left.mpr fun x hx hy => h (by
    have h1 := (mem_outRows.mp hx).symm.trans (mem_outRows.mp hy)
    obtain ⟨⟨a0, ha0⟩, ⟨a1, ha1⟩⟩ := a; obtain ⟨⟨b0, hb0⟩, ⟨b1, hb1⟩⟩ := b
    simp only at h1
    have e0 : a0 = b0 := by omega
    have e1 : a1 = b1 := by omega
    subst e0 e1; rfl)
theorem outRows_cover : (Finset.univ : Finset (Fin 2 × Fin 16)).biUnion outRows = Finset.univ := by
  refine Finset.eq_univ_of_forall fun x => Finset.mem_biUnion.mpr ?_
  have h : (x 0).val < 16384 := (x 0).isLt
  refine ⟨(⟨(x 0).val / 512 % 2, Nat.mod_lt _ (by decide)⟩, ⟨(x 0).val / 512 / 2, by omega⟩), Finset.mem_univ _, mem_outRows.mpr ?_⟩
  show (x 0).val / 512 = 2 * ((x 0).val / 512 / 2) + (x 0).val / 512 % 2
  omega

/-- One of sixteen pieces of the shared table, the one tile `j` reads. -/
abbrev shPiece (j : Fin 16) : PosShare TreeShare := pieceOf fullShare 16 (by decide) j
/-- One of the thirty-two pieces of the arrays every tile of both SparseCores reads. -/
abbrev tilePiece (ci : Fin 2 × Fin 16) : PosShare TreeShare :=
  pieceOf (pieceOf fullShare 2 (by decide) ci.1) 16 (by decide) ci.2

/-! ## The barrier -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- What tile `n`'s arrival at tile `j`'s round hands over: its own rows of the table, staged, at the piece `j` reads. -/
def bPay (g : GSem nD τ sig) (n : ℕ) : sProp 𝕄 :=
  match g with
  | ((d, .scVector c j), _) =>
    if h : n < 16 then iprop(shLoc d c ↦[shRows ⟨n, h⟩]{shPiece (Fin.cast nSub_eq j)} shTab m d c) else iprop(emp)
  | _ => iprop(emp)

/-- Whether a cell is some tile's barrier semaphore. -/
def isBar (g : GSem nD τ sig) : Bool :=
  match g with
  | ((_, .scVector _ _), sm) => decide (sm = .reg sc_bar0)
  | _ => false

/-- The schedule: each barrier cell has one round, in which each of the sixteen tiles (named by its number) owes a
    unit. -/
def bRd : Rounds.Schedule (GSem nD τ sig) ℕ 𝕄 where
  duties g r := if isBar g ∧ r = 0 then (Finset.univ : Finset (Fin 16)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

theorem bRd_duties_zero (d : Dev nD) (c : Fin τ.nSC) (j : Fin τ.nSub) :
    (bRd m).duties (bcell d c j) 0 = (Finset.univ : Finset (Fin 16)).image Fin.val := by
  simp [bRd, isBar]
theorem bRd_duties_later (g : GSem nD τ sig) (r : ℕ) (hr : 1 ≤ r) : (bRd m).duties g r = ∅ :=
  if_neg fun h => absurd h.2 (Nat.ne_of_gt hr)
theorem bRd_mem (d : Dev nD) (c : Fin τ.nSC) (j i : Fin τ.nSub) : i.val ∈ (bRd m).duties (bcell d c j) 0 := by
  rw [bRd_duties_zero]; exact Finset.mem_image.mpr ⟨Fin.cast nSub_eq i, Finset.mem_univ _, rfl⟩
theorem bRd_expect (d : Dev nD) (c : Fin τ.nSC) (j : Fin τ.nSub) : 0 + grid1.bound 1 = (bRd m).expect (bcell d c j) 0 := by
  unfold Rounds.Schedule.expect; rw [bRd_duties_zero]
  show 0 + 16 = ∑ x ∈ (Finset.univ : Finset (Fin 16)).image Fin.val, 1
  rw [Finset.sum_const, Finset.card_image_of_injective _ Fin.val_injective]; rfl

/-- A tile's debt from the launch on: one unit to every tile of its SparseCore. -/
def oxV (d : Dev nD) (c : Fin τ.nSC) : CellTallies nD τ sig (HIx 1) :=
  ∑ j : Fin (grid1.bound 1), tallyAt (bcell d c (j.castLE hsub1)) (some 0) 1

omit [FloatOps F] in
theorem oxV_pos {d : Dev nD} {c : Fin τ.nSC} {g : GSem nD τ sig} {ι : HIx 1} (h : 0 < oxV d c g ι) :
    ∃ j : Fin (grid1.bound 1), g = bcell d c (j.castLE hsub1) ∧ ι = some 0 := by
  obtain ⟨j, -, e⟩ := sum_tallyAt_apply_pos (c := fun j : Fin (grid1.bound 1) => bcell d c (j.castLE hsub1)) (ι := fun _ => some 0) (a := fun _ => 1) h
  exact ⟨j, e⟩
omit [FloatOps F] in
theorem oxV_none (d : Dev nD) (c : Fin τ.nSC) (g : GSem nD τ sig) : oxV d c g none = 0 := by
  by_contra h
  obtain ⟨_, -, e⟩ := oxV_pos (Nat.pos_of_ne_zero h)
  exact nomatch e

/-- What the launch deals a tile for the barrier: the invariants of its SparseCore's sixteen cells and that each is at
    its first round, a token for its arrival at each, its own cell's position, the credit of its own sixteen units. -/
def bkit (d : Dev nD) (c : Fin τ.nSC) (i : Fin τ.nSub) : sProp 𝕄 :=
  iprop((∃ κ : GSem nD τ sig → ℕ, bigSep Finset.univ fun j : Fin (grid1.bound 1) =>
      cellInv EB (bRd m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the call's handshakes carry -/

abbrev coreOf (c : Fin 2) : Fin τ.nSC := (K (F := F)).core 0 c
abbrev subOf (i : Fin 16) : Fin τ.nSub := (K (F := F)).sub 0 i

/-- What tile `(c, i)` reads: the table and the indices, a piece each. -/
abbrev tileReads (d : Dev nD) (ci : Fin 2 × Fin 16) : sProp 𝕄 :=
  iprop((tabLoc d ↦{tilePiece ci} tab m d) ∗ ixLoc d ↦{tilePiece ci} m (ixLoc d))
/-- Its rows of the result, at `f`. -/
abbrev tileOut (d : Dev nD) (ci : Fin 2 × Fin 16) (f : Buf (Elt F) (outLoc d)) : sProp 𝕄 := outLoc d ↦[outRows ci]{fullShare} f
/-- Its rows of the shared memory, at contents of no consequence. -/
abbrev tileShared (d : Dev nD) (c : Fin τ.nSC) (i : Fin 16) : sProp 𝕄 := iprop(∃ f, shLoc d c ↦[shRows i]{fullShare} f)
/-- Its barrier semaphore, back at zero. -/
abbrev barZero (d : Dev nD) (c : Fin τ.nSC) (i : Fin τ.nSub) : sProp 𝕄 := semVal (bcell d c i) 0

/-- What a tile is handed, beyond its rows of the shared memory, -/
abbrev tileIn (d : Dev nD) (ci : Fin 2 × Fin 16) : sProp 𝕄 := iprop(tileReads m d ci ∗ tileOut d ci (m (outLoc d)))
/-- and what it hands back, beyond its piece of the shared memory: its rows of the result looked up. -/
abbrev tileEnd (d : Dev nD) (ci : Fin 2 × Fin 16) : sProp 𝕄 :=
  iprop((tileReads m d ci ∗ tileOut d ci (outG m d)) ∗ barZero d (coreOf (F := F) ci.1) (subOf (F := F) ci.2))

set_option backward.proofsInPublic true in
/-- The call hands each SparseCore its tiles' pieces and gets them back with the rows of the result written; within a
    SparseCore the sequencer adds each tile's rows of the shared memory, and gets a piece of all of it back. -/
def P : (K (F := F)).Pay (nD := nD) (Val := Elt F) (Name := ℕ) (U := UU) where
  st := fun q d c => match q with | 0 => bigSep Finset.univ fun i : Fin 16 => tileIn m d (c, i)
  dn := fun q d c => match q with | 0 => bigSep Finset.univ fun i : Fin 16 => tileEnd m d (c, i)
  go := fun q d c i => match q with | 0 => iprop(tileIn m d (c, i) ∗ tileShared d (coreOf (F := F) c) i)
  td := fun q d c i => match q with
    | 0 => iprop(tileEnd m d (c, i) ∗ shLoc d (coreOf (F := F) c) ↦{shPiece i} shTab m d (coreOf (F := F) c))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub1) (show (sc_bar0 : Sem sig) ≠ (K (F := F)).go from sc_bar0_ne_go)]
      exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin 16 => tileIn m d (c, i)))
  dn q d c := match q with
    | 0 => (inferInstance : BI.Storable (upEmb : UEmb _ 𝕄) (bigSep Finset.univ fun i : Fin 16 => tileEnd m d (c, i)))
  go q d c i := match q with
    | 0 => (inferInstance : BI.Storable (upEmb : UEmb _ 𝕄) iprop(tileIn m d (c, i) ∗ tileShared d (coreOf (F := F) c) i))
  td q d c i := match q with
    | 0 => (inferInstance : BI.Storable (upEmb : UEmb _ 𝕄)
      iprop(tileEnd m d (c, i) ∗ shLoc d (coreOf (F := F) c) ↦{shPiece i} shTab m d (coreOf (F := F) c)))

/-! ## Splitting the shared memory among the tiles, and joining it -/

theorem shPts_rows (d : Dev nD) (c : Fin τ.nSC) (q : PosShare TreeShare) (f : Buf (Elt F) (shLoc d c)) :
    (shLoc d c ↦{q} f : sProp 𝕄) = bigSep Finset.univ fun i : Fin 16 => shLoc d c ↦[shRows i]{q} f := by
  rw [← pointsTo_biUnion Finset.univ (ℓ := shLoc d c) shRows shRows_disjoint, shRows_cover]; try rfl

/-- The shared memory is one of the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun i : Fin 16 => tileIn m d (c, i)) ∗ ownBufs (S d (coreOf (F := F) c))) ⊢ |={Set.univ}=> iprop(
      (bigSep Finset.univ fun i : Fin 16 => iprop(tileIn m d (c, i) ∗ tileShared d (coreOf (F := F) c) i))
      ∗ ((bigSep Finset.univ fun i : Fin 16 => iprop(tileEnd m d (c, i) ∗ shLoc d (coreOf (F := F) c) ↦{shPiece i} shTab m d (coreOf (F := F) c)))
          -∗ iprop((bigSep Finset.univ fun i : Fin 16 => tileEnd m d (c, i)) ∗ ownBufs (S d (coreOf (F := F) c)))))
  rw [bigSep_sep' _ (fun i : Fin 16 => tileIn m d (c, i)), bigSep_sep' _ (fun i : Fin 16 => tileEnd m d (c, i)), ownBufs_S]
  iintro ⟨Hin, ⟨%f, Hsh⟩, Hrest⟩
  imodintro
  isplitl [Hin Hsh]
  · isplitl [Hin]; · iexact Hin
    ihave H := ((Entails.of_eq (shPts_rows d (coreOf (F := F) c) fullShare f)).trans
      (SparseCore.ent (bigSep_mono (Φ := fun i => (shLoc d (coreOf (F := F) c) ↦[shRows i]{fullShare} f : sProp 𝕄)) (Ψ := fun i => tileShared (F := F) d (coreOf (F := F) c) i)
        fun i _ => BI.BIClass.exists_intro (Φ := fun f => (shLoc d (coreOf (F := F) c) ↦[shRows i]{fullShare} f : sProp 𝕄)) f))) $$ Hsh
    iexact H
  iintro ⟨Hend, Hsh⟩
  isplitl [Hend]; · iexact Hend
  isplitl [Hsh]
  · iexists shTab m d (coreOf (F := F) c)
    iapply (Entails.of_eq (pointsTo_piecesOf (ℓ := shLoc d (coreOf (F := F) c)) Finset.univ (shTab m d (coreOf (F := F) c)) (o := 16) (by decide) fullShare).symm)
    iexact Hsh
  iexact Hrest

end Cert.Proof.KernelIdeal

end
-- ==== Proof.IdealViews.lean ====
/-
  The views the tile's program takes of its arrays, each tied to the set of elements it stands for: the list of 512 row
  numbers and the row buffer in eight windows of 64, the tile's part of the result in the same eight, its own rows of
  the table. And the one value fact of the kernel's second half: what a looked-up window, copied out, leaves in the
  result.
-/
module

public import proofs.«01_k».proof.Proof.IdealSetup

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) (L : grid1.Coords)

/-! ## The tile, its operands and their slices -/

abbrev cV : Fin τ.nSC := (L 0).castLE hcore1
abbrev jV : Fin τ.nSub := (L 1).castLE hsub1
abbrev VT : Thread nD τ := V d (cV L) (jV L)
/-- The tile's coordinates: SparseCore, then place in it. -/
abbrev cI : Fin 2 := ⟨(L 0).val, (L 0).isLt⟩
abbrev jI : Fin 16 := ⟨(L 1).val, (L 1).isLt⟩
abbrev tcI : Fin 2 × Fin 16 := (cI L, jI L)
/-- The first of the tile's 512 positions. -/
abbrev base : ℕ := 1024 * (L 1).val + 512 * (L 0).val

abbrev tabM : Memref sig .scVector .hbm S1000x128 .f32 := Memref.whole main_v3_scv
abbrev ixM : Memref sig .scVector .hbm S16384 .i32 := Memref.whole main_arg0_scv
abbrev outM : Memref sig .scVector .hbm S16384x128 .f32 := Memref.whole main_v4_scv
abbrev lstM : Memref sig .scVector .vmem S512 .i32 := Memref.whole cc1_scratch0
abbrev rowM : Memref sig .scVector .vmem S512x128 .f32 := Memref.whole cc1_scratch1
abbrev shM : Memref sig .scVector .shared S1000x128 .f32 := Memref.whole cc1_scratch2

abbrev lstLoc : Loc nD τ sig := (VT d L).loc cc1_scratch0
abbrev rowLoc : Loc nD τ sig := (VT d L).loc cc1_scratch1

/-- The tile's 512 indices. -/
abbrev ixSl : Memref sig .scVector .hbm S512 .i32 :=
  ixM.slice (Rect.unit (s := S16384) (k1_off1 L) S512.size (k1_off1_inb L)) (fun _ => rfl)
/-- The whole shared table, as the lookups name it. -/
abbrev shAll : Memref sig .scVector .shared S1000x128 .f32 :=
  shM.slice (Rect.unit (s := S1000x128) ![0, 0] S1000x128.size inb_S1000x128_S1000x128_0_0) (fun _ => rfl)
/-- That 64 entries of the list from place `n`, 64 rows of the row buffer from row `n`, are within it; that the 64 rows of
    the result the word `v` names are. -/
abbrev LstFits (n : ℕ) : Prop := ∀ a, (![n] : Fin 1 → ℕ) a + S64.size a ≤ S512.size a
abbrev RowFits (n : ℕ) : Prop := ∀ a, (![n, 0] : Fin 2 → ℕ) a + S64x128.size a ≤ S512x128.size a
abbrev OutFits (v : BitVec 32) : Prop := ∀ a, k1_off3 L v a + S64x128.size a ≤ S16384x128.size a
/-- 64 of the row numbers from place `n`, -/
abbrev lstW (n : ℕ) (h : LstFits n) : Memref sig .scVector .vmem S64 .i32 :=
  lstM.slice (Rect.unit (s := S512) ![n] S64.size h) (fun _ => rfl)
/-- the 64 rows of the row buffer they are looked up into, -/
abbrev rowW (n : ℕ) (h : RowFits n) : Memref sig .scVector .vmem S64x128 .f32 :=
  rowM.slice (Rect.unit (s := S512x128) ![n, 0] S64x128.size h) (fun _ => rfl)
/-- and the 64 rows of the result those are copied to. -/
abbrev outW (v : BitVec 32) (h : OutFits L v) : Memref sig .scVector .hbm S64x128 .f32 :=
  outM.slice (Rect.unit (s := S16384x128) (k1_off3 L v) S64x128.size h) (fun _ => rfl)
/-- The tile's own 64 rows of the table, where they come from and where they go, -/
abbrev tabOwn (h : k1_cond1 L = 1#1) : Memref sig .scVector .hbm S64x128 .f32 :=
  tabM.slice (Rect.unit (s := S1000x128) (k1_off2 L) S64x128.size (k1_off2_inb L h)) (fun _ => rfl)
abbrev shOwn (h : k1_cond1 L = 1#1) : Memref sig .scVector .shared S64x128 .f32 :=
  shM.slice (Rect.unit (s := S1000x128) (k1_off2 L) S64x128.size (k1_off2_inb L h)) (fun _ => rfl)
/-- and the last tile's 40. -/
abbrev tabLast : Memref sig .scVector .hbm S40x128 .f32 :=
  tabM.slice (Rect.unit (s := S1000x128) ![960, 0] S40x128.size inb_S1000x128_S40x128_960_0) (fun _ => rfl)
abbrev shLast : Memref sig .scVector .shared S40x128 .f32 :=
  shM.slice (Rect.unit (s := S1000x128) ![960, 0] S40x128.size inb_S1000x128_S40x128_960_0) (fun _ => rfl)

/-! ## Which elements they stand for -/

/-- Window `j` of the row numbers, of the row buffer, of the tile's part of the result. -/
def lstBlk (j : Fin 8) : Finset S512.Idx := Finset.univ.filter fun x => (x 0).val / 64 = j.val
def rowBlk (j : Fin 8) : Finset S512x128.Idx := Finset.univ.filter fun x => (x 0).val / 64 = j.val
def outBlk (j : Fin 8) : Finset S16384x128.Idx := Finset.univ.filter fun x => (x 0).val / 64 = base L / 64 + j.val

theorem lstBlk_disjoint : ∀ i ∈ (Finset.univ : Finset (Fin 8)), ∀ j ∈ (Finset.univ : Finset (Fin 8)), i ≠ j → Disjoint (lstBlk i) (lstBlk j) :=
  fun i _ j _ h => Finset.disjoint_left.mpr fun x hx hy => h (by
    simp only [lstBlk, Finset.mem_filter, Finset.mem_univ, true_and] at hx hy; exact Fin.ext (hx.symm.trans hy))
theorem rowBlk_disjoint : ∀ i ∈ (Finset.univ : Finset (Fin 8)), ∀ j ∈ (Finset.univ : Finset (Fin 8)), i ≠ j → Disjoint (rowBlk i) (rowBlk j) :=
  fun i _ j _ h => Finset.disjoint_left.mpr fun x hx hy => h (by
    simp only [rowBlk, Finset.mem_filter, Finset.mem_univ, true_and] at hx hy; exact Fin.ext (hx.symm.trans hy))
theorem outBlk_disjoint : ∀ i ∈ (Finset.univ : Finset (Fin 8)), ∀ j ∈ (Finset.univ : Finset (Fin 8)), i ≠ j → Disjoint (outBlk L i) (outBlk L j) :=
  fun i _ j _ h => Finset.disjoint_left.mpr fun x hx hy => h (by
    simp only [outBlk, Finset.mem_filter, Finset.mem_univ, true_and] at hx hy; exact Fin.ext (by omega))
theorem lstBlk_cover : (Finset.univ : Finset (Fin 8)).biUnion lstBlk = Finset.univ := by
  refine Finset.eq_univ_of_forall fun x => Finset.mem_biUnion.mpr ?_
  have h : (x 0).val < 512 := (x 0).isLt
  exact ⟨⟨(x 0).val / 64, by omega⟩, Finset.mem_univ _, by simp [lstBlk]⟩
theorem rowBlk_cover : (Finset.univ : Finset (Fin 8)).biUnion rowBlk = Finset.univ := by
  refine Finset.eq_univ_of_forall fun x => Finset.mem_biUnion.mpr ?_
  have h : (x 0).val < 512 := (x 0).isLt
  exact ⟨⟨(x 0).val / 64, by omega⟩, Finset.mem_univ _, by simp [rowBlk]⟩
theorem outBlk_cover : (Finset.univ : Finset (Fin 8)).biUnion (outBlk L) = outRows (tcI L) := by
  ext x
  simp only [Finset.mem_biUnion, Finset.mem_univ, true_and, outBlk, Finset.mem_filter, mem_outRows]
  constructor
  · rintro ⟨j, hj⟩
    have := j.isLt
    have h0 : (L 0).val < 2 := (L 0).isLt
    have hb : base L = 1024 * (L 1).val + 512 * (L 0).val := rfl
    show (x 0).val / 512 = 2 * (L 1).val + (L 0).val
    omega
  · intro h
    have h' : (x 0).val / 512 = 2 * (L 1).val + (L 0).val := h
    have hb : base L = 1024 * (L 1).val + 512 * (L 0).val := rfl
    exact ⟨⟨(x 0).val / 64 % 8, Nat.mod_lt _ (by decide)⟩, by show (x 0).val / 64 = base L / 64 + (x 0).val / 64 % 8; omega⟩

theorem lstW_set {n : ℕ} (h) (j : Fin 8) (hj : n = 64 * j.val) : (lstW n h).view.set = lstBlk j := by
  rw [View.set_slice_whole]
  ext x
  rw [Rect.mem_set_unit]
  simp only [lstBlk, Finset.mem_filter, Finset.mem_univ, true_and]
  constructor
  · intro hx
    have h0 : n ≤ (x 0).val ∧ (x 0).val < n + 64 := hx 0
    omega
  · intro hx a
    obtain rfl : a = 0 := Subsingleton.elim (α := Fin 1) _ _
    show n ≤ (x 0).val ∧ (x 0).val < n + 64
    omega
theorem rowW_set {n : ℕ} (h) (j : Fin 8) (hj : n = 64 * j.val) : (rowW n h).view.set = rowBlk j := by
  rw [View.set_slice_whole]
  ext x
  rw [Rect.mem_set_unit]
  simp only [rowBlk, Finset.mem_filter, Finset.mem_univ, true_and]
  constructor
  · intro hx
    have h0 : n ≤ (x 0).val ∧ (x 0).val < n + 64 := hx 0
    omega
  · intro hx a
    match a with
    | 0 => show n ≤ (x 0).val ∧ (x 0).val < n + 64; omega
    | 1 => exact ⟨Nat.zero_le _, by have h1 : (x 1).val < 128 := (x 1).isLt; show (x 1).val < 0 + 128; omega⟩
theorem outW_set {v : BitVec 32} (h) (n : ℕ) (hv : k1_off3 L v = ![base L + n, 0]) (j : Fin 8) (hj : n = 64 * j.val) :
    (outW L v h).view.set = outBlk L j := by
  rw [View.set_slice_whole]
  ext x
  rw [Rect.mem_set_unit]
  have hb : base L = 1024 * (L 1).val + 512 * (L 0).val := rfl
  simp only [outBlk, Finset.mem_filter, Finset.mem_univ, true_and, hv]
  constructor
  · intro hx
    have h0 : base L + n ≤ (x 0).val ∧ (x 0).val < base L + n + 64 := hx 0
    generalize base L = B at *
    omega
  · intro hx a
    match a with
    | 0 => show base L + n ≤ (x 0).val ∧ (x 0).val < base L + n + 64; generalize base L = B at *; omega
    | 1 => exact ⟨Nat.zero_le _, by have h1 : (x 1).val < 128 := (x 1).isLt; show (x 1).val < 0 + 128; omega⟩
theorem shAll_set : (shAll).view.set = Finset.univ := by
  rw [View.set_slice_whole]
  refine Finset.eq_univ_of_forall fun x => Rect.mem_set_unit.mpr fun a => ?_
  match a with
  | 0 => exact ⟨Nat.zero_le _, by have h1 : (x 0).val < 1000 := (x 0).isLt; show (x 0).val < 0 + 1000; omega⟩
  | 1 => exact ⟨Nat.zero_le _, by have h1 : (x 1).val < 128 := (x 1).isLt; show (x 1).val < 0 + 128; omega⟩

/-- The condition under which a tile stages 64 rows is that it is not the last, -/
theorem cond1_iff : k1_cond1 L = 1#1 ↔ (L 1).val < 15 := by
  have h : ∀ j : Fin 16, (Scalar.cmpi .ne (Scalar.extui (Scalar.cmpi .slt (BitVec.ofNat 32 j.val) 15#32)) 0#32 = 1#1) ↔ j.val < 15 := by decide
  exact h (L 1)
/-- and the one under which it stages 40 that it is. -/
theorem cond2_iff : (Scalar.cmpi .ne (Scalar.extui (Scalar.cmpi .eq (BitVec.ofNat 32 (L 1).val) 15#32) : BitVec 32) 0#32 = 1#1) ↔ ¬ (L 1).val < 15 := by
  have h : ∀ j : Fin 16, (Scalar.cmpi .ne (Scalar.extui (Scalar.cmpi .eq (BitVec.ofNat 32 j.val) 15#32) : BitVec 32) 0#32 = 1#1) ↔ ¬ j.val < 15 := by decide
  exact h (L 1)

theorem shOwn_set (h : k1_cond1 L = 1#1) : (shOwn L h).view.set = shRows (jI L) := by
  have h15 := (cond1_iff L).mp h
  rw [View.set_slice_whole]
  ext x
  rw [Rect.mem_set_unit]; refine Iff.trans ?_ (mem_shRows (i := jI L) (x := x)).symm
  simp only [k1_off2_eq]
  constructor
  · intro hx
    have h0 : 64 * (L 1).val ≤ (x 0).val ∧ (x 0).val < 64 * (L 1).val + 64 := hx 0
    omega
  · intro hx a
    match a with
    | 0 => show 64 * (L 1).val ≤ (x 0).val ∧ (x 0).val < 64 * (L 1).val + 64; omega
    | 1 => exact ⟨Nat.zero_le _, by have h1 : (x 1).val < 128 := (x 1).isLt; show (x 1).val < 0 + 128; omega⟩
theorem shLast_set (h : ¬ (L 1).val < 15) : (shLast).view.set = shRows (jI L) := by
  have h16 : (L 1).val < 16 := (L 1).isLt
  have hj : (jI L).val = (L 1).val := rfl
  rw [View.set_slice_whole]
  ext x
  have hx0 : (x 0).val < 1000 := (x 0).isLt
  rw [Rect.mem_set_unit]; refine Iff.trans ?_ (mem_shRows (i := jI L) (x := x)).symm
  constructor
  · intro hx
    have h0 : 960 ≤ (x 0).val ∧ (x 0).val < 960 + 40 := hx 0
    omega
  · intro hx a
    match a with
    | 0 => show 960 ≤ (x 0).val ∧ (x 0).val < 960 + 40; omega
    | 1 => exact ⟨Nat.zero_le _, by have h1 : (x 1).val < 128 := (x 1).isLt; show (x 1).val < 0 + 128; omega⟩

/-! ## The same, between assertions -/

theorem pts_lstW {n : ℕ} (h) (j : Fin 8) (hj : n = 64 * j.val) (q : PosShare TreeShare) (f : Buf (Elt F) (lstLoc d L)) :
    ((lstW n h).view.loc (VT d L) ↦[(lstW n h).view.set]{q} f : sProp 𝕄) = lstLoc d L ↦[lstBlk j]{q} f := by
  rw [lstW_set h j hj]
theorem pts_rowW {n : ℕ} (h) (j : Fin 8) (hj : n = 64 * j.val) (q : PosShare TreeShare) (f : Buf (Elt F) (rowLoc d L)) :
    ((rowW n h).view.loc (VT d L) ↦[(rowW n h).view.set]{q} f : sProp 𝕄) = rowLoc d L ↦[rowBlk j]{q} f := by
  rw [rowW_set h j hj]
theorem pts_outW {v : BitVec 32} (h) (n : ℕ) (hv : k1_off3 L v = ![base L + n, 0]) (j : Fin 8) (hj : n = 64 * j.val) (q : PosShare TreeShare)
    (f : Buf (Elt F) (outLoc d)) :
    ((outW L v h).view.loc (VT d L) ↦[(outW L v h).view.set]{q} f : sProp 𝕄) = outLoc d ↦[outBlk L j]{q} f := by
  rw [outW_set L h n hv j hj]
theorem pts_shAll (q : PosShare TreeShare) (f : Buf (Elt F) (shLoc d (cV L))) :
    ((shAll).view.loc (VT d L) ↦[(shAll).view.set]{q} f : sProp 𝕄) = shLoc d (cV L) ↦{q} f := by
  rw [shAll_set]; rfl
theorem pts_shOwn (h : k1_cond1 L = 1#1) (q : PosShare TreeShare) (f : Buf (Elt F) (shLoc d (cV L))) :
    ((shOwn L h).view.loc (VT d L) ↦[(shOwn L h).view.set]{q} f : sProp 𝕄) = shLoc d (cV L) ↦[shRows (jI L)]{q} f := by
  rw [shOwn_set]; rfl
theorem pts_shLast (h : ¬ (L 1).val < 15) (q : PosShare TreeShare) (f : Buf (Elt F) (shLoc d (cV L))) :
    ((shLast).view.loc (VT d L) ↦[(shLast).view.set]{q} f : sProp 𝕄) = shLoc d (cV L) ↦[shRows (jI L)]{q} f := by
  rw [shLast_set L h]; rfl

/-! ## The windows of a whole buffer, and the pieces of a share, in full -/

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## Values -/

/-- What a tile's rows hold once the table's are copied over them: the table. -/
theorem shOwn_write (h : k1_cond1 L = 1#1) (f : Buf (Elt F) (shLoc d (cV L))) :
    ((shOwn L h).view.loc (VT d L) ↦[(shOwn L h).view.set]{fullShare}
        ((shOwn L h).view.write (Elt F) f ((tabOwn L h).view.read (Elt F) (tab m d)) Finset.univ) : sProp 𝕄)
      = shLoc d (cV L) ↦[shRows (jI L)]{fullShare} shTab m d (cV L) := by
  rw [← pts_shOwn d L h]
  refine pointsTo_congr fun x hx => ?_
  obtain ⟨y, -, rfl⟩ := Finset.mem_map.mp hx
  rw [View.write_emb_of_mem _ _ (Finset.mem_univ y)]
  rfl
theorem shLast_write (h : ¬ (L 1).val < 15) (f : Buf (Elt F) (shLoc d (cV L))) :
    ((shLast).view.loc (VT d L) ↦[(shLast).view.set]{fullShare}
        ((shLast).view.write (Elt F) f ((tabLast).view.read (Elt F) (tab m d)) Finset.univ) : sProp 𝕄)
      = shLoc d (cV L) ↦[shRows (jI L)]{fullShare} shTab m d (cV L) := by
  rw [← pts_shLast d L h]
  refine pointsTo_congr fun x hx => ?_
  obtain ⟨y, -, rfl⟩ := Finset.mem_map.mp hx
  rw [View.write_emb_of_mem _ _ (Finset.mem_univ y)]
  rfl

/-- The row numbers a tile's list holds once its part of the indices is copied into it. -/
def lstV : Buf (Elt F) (lstLoc d L) := (ixSl L).view.read (Elt F) (m (ixLoc d))

theorem lstV_apply (x : S512.Idx) (hx : base L + (x 0).val < 16384) : lstV m d L x = m (ixLoc d) (ixIx ⟨base L + (x 0).val, hx⟩) := by
  unfold lstV
  refine congrArg (m (ixLoc d)) (funext fun a => ?_)
  match a with
  | 0 =>
    refine Fin.ext ?_
    show k1_off1 L 0 + 1 * (x 0).val = base L + (x 0).val
    rw [k1_off1_eq]
    show base L + 1 * (x 0).val = base L + (x 0).val
    omega

theorem base_lt (n : ℕ) (hn : n < 512) : base L + n < 16384 := by
  have h0 : (L 0).val < 2 := (L 0).isLt
  have h1 : (L 1).val < 16 := (L 1).isLt
  have hb : base L = 1024 * (L 1).val + 512 * (L 0).val := rfl
  omega

/-- Every entry of the list names a row of the table. -/
theorem lstV_lt (hr : InRange m) (x : S512.Idx) : (lstV m d L x : BitVec 32).toNat < 1000 := by
  rw [lstV_apply m d L x (base_lt L _ (x 0).isLt)]
  exact hr d _

theorem lstW_lt (hr : InRange m) {n : ℕ} (h) (x : S64.Idx) :
    ((lstW n h).view.read (Elt F) (lstV m d L) x : BitVec 32).toNat < S1000x128.size (gathers_S1000x128_S64x128).axis :=
  lstV_lt m d L hr _

/-- A window of the result, once the rows looked up for it are copied out: the rows its indices name. -/
theorem outW_write (hr : InRange m) {n : ℕ} (hl) (hw) {v : BitVec 32} (ho) (hv : k1_off3 L v = ![base L + n, 0]) (j : Fin 8) (hj : n = 64 * j.val)
    (hin : ∀ x, ((lstW n hl).view.read (Elt F) (lstV m d L) x : BitVec 32).toNat < S1000x128.size (gathers_S1000x128_S64x128).axis)
    (fr : Buf (Elt F) (rowLoc d L)) (fo : Buf (Elt F) (outLoc d)) :
    ((outW L v ho).view.loc (VT d L) ↦[(outW L v ho).view.set]{fullShare}
        ((outW L v ho).view.write (Elt F) fo ((rowW n hw).view.read (Elt F)
          ((rowW n hw).view.write (Elt F) fr (SparseCore.gatherPayload gathers_S1000x128_S64x128 ((shAll).view.read (Elt F) (shTab m d (cV L)))
            (SparseCore.rows ((lstW n hl).view.read (Elt F) (lstV m d L)) rfl hin)) Finset.univ)) Finset.univ) : sProp 𝕄)
      = outLoc d ↦[outBlk L j]{fullShare} outG m d := by
  rw [← pts_outW d L ho n hv j hj]
  refine pointsTo_congr fun x hx => ?_
  obtain ⟨y, -, rfl⟩ := Finset.mem_map.mp hx
  rw [View.write_emb_of_mem _ _ (Finset.mem_univ y), View.read_write_univ]
  -- the window's element `y` is row `n + y 0` of the list
  have hlt : (y 0).val < 64 := (y 0).isLt
  have hn : n + (y 0).val < 512 := by have := j.isLt; omega
  have hl0 : (SparseCore.rows ((lstW n hl).view.read (Elt F) (lstV m d L)) rfl hin (y 0)).val
      = (m (ixLoc d) (ixIx ⟨base L + (n + (y 0).val), base_lt L _ hn⟩) : BitVec 32).toNat := by
    show (lstV m d L _ : BitVec 32).toNat = _
    rw [lstV_apply m d L _ (base_lt L _ (Fin.isLt _))]
    refine congrArg (fun k => (m (ixLoc d) (ixIx k) : BitVec 32).toNat) (Fin.ext ?_)
    have hp : (S64.rowMajor.symm ((y 0 : Fin 64).cast rfl) 0).val = (y 0).val :=
      (Shape.rowMajor_val_one (d := ![64]) (S64.rowMajor.symm ((y 0 : Fin 64).cast rfl))).symm.trans
        (congrArg Fin.val (S64.rowMajor.apply_symm_apply _))
    show base L + (n + 1 * (S64.rowMajor.symm _ 0).val) = base L + (n + (y 0).val)
    rw [← hp]; omega
  have he0 : ((outW L v ho).view.emb y 0).val = base L + (n + (y 0).val) := by
    show k1_off3 L v 0 + 1 * (y 0).val = _
    rw [hv]
    show base L + n + 1 * (y 0).val = _
    omega
  have he1 : ((outW L v ho).view.emb y 1).val = (y 1).val := by
    show k1_off3 L v 1 + 1 * (y 1).val = _
    rw [hv]
    show 0 + 1 * (y 1).val = _
    omega
  unfold SparseCore.gatherPayload outG lookV
  show tab m d ((shAll).view.emb _) = tab m d _
  refine congrArg (tab m d) (funext fun a => Fin.ext ?_)
  match a with
  | 0 =>
    show 0 + 1 * ((gathers_S1000x128_S64x128).idx _ y (gathers_S1000x128_S64x128).axis).val = (rowOf (m (ixLoc d) (ixIx ((outW L v ho).view.emb y 0)))).val
    rw [Shape.Gathers.idx_axis]
    refine Eq.trans ?_ (rowOf_val (hr d _)).symm
    rw [show (ixIx ((outW L v ho).view.emb y 0) : S16384.Idx) = ixIx ⟨base L + (n + (y 0).val), base_lt L _ hn⟩ from congrArg ixIx (Fin.ext he0), ← hl0]
    exact (Nat.zero_add _).trans (Nat.one_mul _)
  | 1 =>
    show 0 + 1 * ((gathers_S1000x128_S64x128).idx _ y (1 : Fin 2)).val = ((outW L v ho).view.emb y 1).val
    rw [he1, Shape.Gathers.idx_of_ne _ _ _ _ (by decide)]
    exact (Nat.zero_add _).trans (Nat.one_mul _)

end Cert.Proof.KernelIdeal

end
-- ==== Proof.IdealLookups.lean ====
/-
  The second half of a tile's task, from the barrier on: eight lookups of 64 rows each out of the shared table, each
  copied out to the result as it lands. Held at the start are the list of row numbers, the row buffer, the tile's rows
  of the result and its piece of the whole table; at the end the rows of the result are the rows looked up.
-/
module

public import proofs.«01_k».proof.Proof.IdealViews

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid1.Coords)

/-- One lookup: the 64 rows the list's entries from place `n` name, into the row buffer from row `n`. -/
abbrev lookup (n : ℕ) (hl : LstFits n) (hw : RowFits n) (sem : DmaSems sig S_) :
    Prog (TpuEff nD τ sig (Elt F) Λ₀ (.scVector (cV L) (jV L))) PUnit :=
  SparseCore.enqueueIndirectGather rfl shAll (rowW n hw) gathers_S1000x128_S64x128 (lstW n hl) rfl sem.sem (View.wordExact_bits rfl) rfl (Or.inr rfl)
/-- The wait for it. -/
abbrev landed (n : ℕ) (hw : RowFits n) (sem : DmaSems sig S_) : Prog (TpuEff nD τ sig (Elt F) Λ₀ (.scVector (cV L) (jV L))) PUnit :=
  SparseCore.waitIndirectGather sem.sem shAll (rowW n hw) (View.wordExact_bits rfl) (View.wordExact_bits rfl)
/-- The copy of those rows out to the result. -/
abbrev copyOut (n : ℕ) (hw : RowFits n) (v : BitVec 32) (ho : OutFits L v) (sem : DmaSems sig S_) :
    Prog (TpuEff nD τ sig (Elt F) Λ₀ (.scVector (cV L) (jV L))) PUnit :=
  Prog.lift (.enqueueDma (rowW n hw) (.here (outW L v ho)) (.dma sem.sem) (View.wordExact_bits rfl) (View.wordExact_bits rfl) ⟨Or.inl rfl, trivial⟩)
/-- The wait for that. -/
abbrev written (n : ℕ) (hw : RowFits n) (v : BitVec 32) (ho : OutFits L v) (sem : DmaSems sig S_) :
    Prog (TpuEff nD τ sig (Elt F) Λ₀ (.scVector (cV L) (jV L))) PUnit :=
  Prog.lift (.waitDma2 sem.sem (rowW n hw) (outW L v ho) (View.wordExact_bits rfl) (View.wordExact_bits rfl))

/-- The task from the barrier on. -/
abbrev lookups : Prog (TpuEff nD τ sig (Elt F) Λ₀ (.scVector (cV L) (jV L))) PUnit := do
  lookup L 0 inb_S512_S64_0 inb_S512x128_S64x128_0_0 cc1_scratch4
  lookup L 64 inb_S512_S64_64 inb_S512x128_S64x128_64_0 cc1_scratch5
  lookup L 128 inb_S512_S64_128 inb_S512x128_S64x128_128_0 cc1_scratch6
  lookup L 192 inb_S512_S64_192 inb_S512x128_S64x128_192_0 cc1_scratch7
  lookup L 256 inb_S512_S64_256 inb_S512x128_S64x128_256_0 cc1_scratch8
  lookup L 320 inb_S512_S64_320 inb_S512x128_S64x128_320_0 cc1_scratch9
  lookup L 384 inb_S512_S64_384 inb_S512x128_S64x128_384_0 cc1_scratch10
  lookup L 448 inb_S512_S64_448 inb_S512x128_S64x128_448_0 cc1_scratch11
  landed L 0 inb_S512x128_S64x128_0_0 cc1_scratch4
  copyOut L 0 inb_S512x128_S64x128_0_0 0#32 (k1_off3_inb L 0) cc1_scratch12
  landed L 64 inb_S512x128_S64x128_64_0 cc1_scratch5
  copyOut L 64 inb_S512x128_S64x128_64_0 64#32 (k1_off3_inb L 1) cc1_scratch13
  landed L 128 inb_S512x128_S64x128_128_0 cc1_scratch6
  copyOut L 128 inb_S512x128_S64x128_128_0 128#32 (k1_off3_inb L 2) cc1_scratch14
  landed L 192 inb_S512x128_S64x128_192_0 cc1_scratch7
  copyOut L 192 inb_S512x128_S64x128_192_0 192#32 (k1_off3_inb L 3) cc1_scratch15
  landed L 256 inb_S512x128_S64x128_256_0 cc1_scratch8
  copyOut L 256 inb_S512x128_S64x128_256_0 256#32 (k1_off3_inb L 4) cc1_scratch16
  landed L 320 inb_S512x128_S64x128_320_0 cc1_scratch9
  copyOut L 320 inb_S512x128_S64x128_320_0 320#32 (k1_off3_inb L 5) cc1_scratch17
  landed L 384 inb_S512x128_S64x128_384_0 cc1_scratch10
  copyOut L 384 inb_S512x128_S64x128_384_0 384#32 (k1_off3_inb L 6) cc1_scratch18
  landed L 448 inb_S512x128_S64x128_448_0 cc1_scratch11
  copyOut L 448 inb_S512x128_S64x128_448_0 448#32 (k1_off3_inb L 7) cc1_scratch19
  written L 0 inb_S512x128_S64x128_0_0 0#32 (k1_off3_inb L 0) cc1_scratch12
  written L 64 inb_S512x128_S64x128_64_0 64#32 (k1_off3_inb L 1) cc1_scratch13
  written L 128 inb_S512x128_S64x128_128_0 128#32 (k1_off3_inb L 2) cc1_scratch14
  written L 192 inb_S512x128_S64x128_192_0 192#32 (k1_off3_inb L 3) cc1_scratch15
  written L 256 inb_S512x128_S64x128_256_0 256#32 (k1_off3_inb L 4) cc1_scratch16
  written L 320 inb_S512x128_S64x128_320_0 320#32 (k1_off3_inb L 5) cc1_scratch17
  written L 384 inb_S512x128_S64x128_384_0 384#32 (k1_off3_inb L 6) cc1_scratch18
  written L 448 inb_S512x128_S64x128_448_0 448#32 (k1_off3_inb L 7) cc1_scratch19
  pure ⟨⟩

/-! ## The eight windows of each buffer, as the program spells them -/

abbrev lstP (q : PosShare TreeShare) (f : Buf (Elt F) (lstLoc d L)) (n : ℕ) (h : LstFits n) : sProp 𝕄 :=
  (lstW n h).view.loc (VT d L) ↦[(lstW n h).view.set]{q} f
abbrev rowP (f : Buf (Elt F) (rowLoc d L)) (n : ℕ) (h : RowFits n) : sProp 𝕄 :=
  (rowW n h).view.loc (VT d L) ↦[(rowW n h).view.set]{fullShare} f
abbrev outP (f : Buf (Elt F) (outLoc d)) (v : BitVec 32) (h : OutFits L v) : sProp 𝕄 :=
  (outW L v h).view.loc (VT d L) ↦[(outW L v h).view.set]{fullShare} f
abbrev shP (q : PosShare TreeShare) : sProp 𝕄 :=
  (shAll).view.loc (VT d L) ↦[(shAll).view.set]{q} shTab m d (cV L)

theorem lst_windows (q : PosShare TreeShare) (f : Buf (Elt F) (lstLoc d L)) :
    (lstLoc d L ↦{q} f : sProp 𝕄)
      = iprop(lstP d L q f 0 inb_S512_S64_0 ∗ lstP d L q f 64 inb_S512_S64_64 ∗ lstP d L q f 128 inb_S512_S64_128
          ∗ lstP d L q f 192 inb_S512_S64_192 ∗ lstP d L q f 256 inb_S512_S64_256 ∗ lstP d L q f 320 inb_S512_S64_320
          ∗ lstP d L q f 384 inb_S512_S64_384 ∗ lstP d L q f 448 inb_S512_S64_448) := by
  rw [← lstBlk_cover, pointsTo_biUnion _ (ℓ := lstLoc d L) lstBlk lstBlk_disjoint, bigSep_eight]
  rw [← pts_lstW d L inb_S512_S64_0 0 rfl, ← pts_lstW d L inb_S512_S64_64 1 rfl, ← pts_lstW d L inb_S512_S64_128 2 rfl,
    ← pts_lstW d L inb_S512_S64_192 3 rfl, ← pts_lstW d L inb_S512_S64_256 4 rfl, ← pts_lstW d L inb_S512_S64_320 5 rfl,
    ← pts_lstW d L inb_S512_S64_384 6 rfl, ← pts_lstW d L inb_S512_S64_448 7 rfl]

theorem row_windows (f : Buf (Elt F) (rowLoc d L)) :
    (rowLoc d L ↦{fullShare} f : sProp 𝕄)
      = iprop(rowP d L f 0 inb_S512x128_S64x128_0_0 ∗ rowP d L f 64 inb_S512x128_S64x128_64_0 ∗ rowP d L f 128 inb_S512x128_S64x128_128_0
          ∗ rowP d L f 192 inb_S512x128_S64x128_192_0 ∗ rowP d L f 256 inb_S512x128_S64x128_256_0 ∗ rowP d L f 320 inb_S512x128_S64x128_320_0
          ∗ rowP d L f 384 inb_S512x128_S64x128_384_0 ∗ rowP d L f 448 inb_S512x128_S64x128_448_0) := by
  rw [← rowBlk_cover, pointsTo_biUnion _ (ℓ := rowLoc d L) rowBlk rowBlk_disjoint, bigSep_eight]
  rw [← pts_rowW d L inb_S512x128_S64x128_0_0 0 rfl, ← pts_rowW d L inb_S512x128_S64x128_64_0 1 rfl, ← pts_rowW d L inb_S512x128_S64x128_128_0 2 rfl,
    ← pts_rowW d L inb_S512x128_S64x128_192_0 3 rfl, ← pts_rowW d L inb_S512x128_S64x128_256_0 4 rfl, ← pts_rowW d L inb_S512x128_S64x128_320_0 5 rfl,
    ← pts_rowW d L inb_S512x128_S64x128_384_0 6 rfl, ← pts_rowW d L inb_S512x128_S64x128_448_0 7 rfl]

/-- The row buffer back whole from its windows, each at what its lookup left. -/
theorem row_join (f0 f1 f2 f3 f4 f5 f6 f7 : Buf (Elt F) (rowLoc d L)) :
    iprop(rowP d L f0 0 inb_S512x128_S64x128_0_0 ∗ rowP d L f1 64 inb_S512x128_S64x128_64_0 ∗ rowP d L f2 128 inb_S512x128_S64x128_128_0
          ∗ rowP d L f3 192 inb_S512x128_S64x128_192_0 ∗ rowP d L f4 256 inb_S512x128_S64x128_256_0 ∗ rowP d L f5 320 inb_S512x128_S64x128_320_0
          ∗ rowP d L f6 384 inb_S512x128_S64x128_384_0 ∗ rowP d L f7 448 inb_S512x128_S64x128_448_0)
      ⊢ (iprop(∃ f, rowLoc d L ↦{fullShare} f) : sProp 𝕄) := by
  have h := pointsTo_biUnion_join (Ix := HIx 1) (Name := ℕ) (U := UU) (Lvl := ℕ) (q := fullShare) (Finset.univ : Finset (Fin 8)) (ℓ := rowLoc d L) rowBlk
    (fun j => ![f0, f1, f2, f3, f4, f5, f6, f7] j) f0 rowBlk_disjoint
  rw [bigSep_eight, rowBlk_cover] at h
  simp only [rowP]
  rw [pts_rowW d L inb_S512x128_S64x128_0_0 0 rfl, pts_rowW d L inb_S512x128_S64x128_64_0 1 rfl, pts_rowW d L inb_S512x128_S64x128_128_0 2 rfl,
    pts_rowW d L inb_S512x128_S64x128_192_0 3 rfl, pts_rowW d L inb_S512x128_S64x128_256_0 4 rfl, pts_rowW d L inb_S512x128_S64x128_320_0 5 rfl,
    pts_rowW d L inb_S512x128_S64x128_384_0 6 rfl, pts_rowW d L inb_S512x128_S64x128_448_0 7 rfl]
  refine h.trans ?_
  iintro ⟨%g, -, H⟩
  iexists g; iexact H

theorem off3_0 : k1_off3 L 0#32 = ![base L + 0, 0] := k1_off3_eq L 0
theorem off3_1 : k1_off3 L 64#32 = ![base L + 64, 0] := k1_off3_eq L 1
theorem off3_2 : k1_off3 L 128#32 = ![base L + 128, 0] := k1_off3_eq L 2
theorem off3_3 : k1_off3 L 192#32 = ![base L + 192, 0] := k1_off3_eq L 3
theorem off3_4 : k1_off3 L 256#32 = ![base L + 256, 0] := k1_off3_eq L 4
theorem off3_5 : k1_off3 L 320#32 = ![base L + 320, 0] := k1_off3_eq L 5
theorem off3_6 : k1_off3 L 384#32 = ![base L + 384, 0] := k1_off3_eq L 6
theorem off3_7 : k1_off3 L 448#32 = ![base L + 448, 0] := k1_off3_eq L 7

theorem out_windows (f : Buf (Elt F) (outLoc d)) :
    (tileOut d (tcI L) f : sProp 𝕄)
      = iprop(outP d L f 0#32 (k1_off3_inb L 0) ∗ outP d L f 64#32 (k1_off3_inb L 1) ∗ outP d L f 128#32 (k1_off3_inb L 2)
          ∗ outP d L f 192#32 (k1_off3_inb L 3) ∗ outP d L f 256#32 (k1_off3_inb L 4) ∗ outP d L f 320#32 (k1_off3_inb L 5)
          ∗ outP d L f 384#32 (k1_off3_inb L 6) ∗ outP d L f 448#32 (k1_off3_inb L 7)) := by
  show (outLoc d ↦[outRows (tcI L)]{fullShare} f : sProp 𝕄) = _
  rw [← outBlk_cover, pointsTo_biUnion _ (ℓ := outLoc d) (outBlk L) (outBlk_disjoint L), bigSep_eight]
  rw [← pts_outW d L (v := 0#32) (k1_off3_inb L 0) 0 (off3_0 L) 0 rfl, ← pts_outW d L (v := 64#32) (k1_off3_inb L 1) 64 (off3_1 L) 1 rfl,
    ← pts_outW d L (v := 128#32) (k1_off3_inb L 2) 128 (off3_2 L) 2 rfl, ← pts_outW d L (v := 192#32) (k1_off3_inb L 3) 192 (off3_3 L) 3 rfl,
    ← pts_outW d L (v := 256#32) (k1_off3_inb L 4) 256 (off3_4 L) 4 rfl, ← pts_outW d L (v := 320#32) (k1_off3_inb L 5) 320 (off3_5 L) 5 rfl,
    ← pts_outW d L (v := 384#32) (k1_off3_inb L 6) 384 (off3_6 L) 6 rfl, ← pts_outW d L (v := 448#32) (k1_off3_inb L 7) 448 (off3_7 L) 7 rfl]

/-- The tile's piece of the table, cut into one for each lookup. -/
theorem sh_pieces (q : PosShare TreeShare) :
    (shLoc d (cV L) ↦{q} shTab m d (cV L) : sProp 𝕄)
      = iprop(shP m d L (pieceOf q 8 (by decide) 0) ∗ shP m d L (pieceOf q 8 (by decide) 1) ∗ shP m d L (pieceOf q 8 (by decide) 2)
          ∗ shP m d L (pieceOf q 8 (by decide) 3) ∗ shP m d L (pieceOf q 8 (by decide) 4) ∗ shP m d L (pieceOf q 8 (by decide) 5)
          ∗ shP m d L (pieceOf q 8 (by decide) 6) ∗ shP m d L (pieceOf q 8 (by decide) 7)) := by
  rw [pointsTo_piecesOf (ℓ := shLoc d (cV L)) Finset.univ (shTab m d (cV L)) (o := 8) (by decide) q, bigSep_eight]
  rw [← pts_shAll, ← pts_shAll, ← pts_shAll, ← pts_shAll, ← pts_shAll, ← pts_shAll, ← pts_shAll, ← pts_shAll]

/-- A window of the result after its copy, as the run leaves it. -/
theorem outP_done (hr : InRange m) {n : ℕ} (hl : LstFits n) (hw : RowFits n) {v : BitVec 32} (ho : OutFits L v) (hv : k1_off3 L v = ![base L + n, 0])
    (j : Fin 8) (hj : n = 64 * j.val)
    (hin : ∀ x, ((lstW n hl).view.read (Elt F) (lstV m d L) x : BitVec 32).toNat < S1000x128.size (gathers_S1000x128_S64x128).axis)
    (fr : Buf (Elt F) (rowLoc d L)) (fo : Buf (Elt F) (outLoc d)) :
    outP d L ((outW L v ho).view.writes (Elt F) fo [⟨Rect.whole S64x128, (rowW n hw).view.read (Elt F)
          ((rowW n hw).view.writes (Elt F) fr [⟨Rect.whole S64x128, SparseCore.gatherPayload gathers_S1000x128_S64x128
            ((shAll).view.read (Elt F) (shTab m d (cV L))) (SparseCore.rows ((lstW n hl).view.read (Elt F) (lstV m d L)) rfl hin)⟩])⟩]) v ho
      = outP d L (outG m d) v ho := by
  rw [← View.write_univ_eq_writes_whole (outW L v ho).view fo [], ← View.write_univ_eq_writes_whole (rowW n hw).view fr []]
  exact (outW_write m d L hr hl hw ho hv j hj hin fr fo).trans (pts_outW d L ho n hv j hj fullShare _).symm

/-! ## The semaphores -/

abbrev sem0 (s : DmaSems sig S_) : sProp 𝕄 := semVal (VT d L, SemLoc.dma s.sem) 0
/-- The eight lookups' semaphores and the eight copies', at zero. -/
abbrev gatherSems : sProp 𝕄 :=
  iprop(sem0 d L cc1_scratch4 ∗ sem0 d L cc1_scratch5 ∗ sem0 d L cc1_scratch6 ∗ sem0 d L cc1_scratch7
    ∗ sem0 d L cc1_scratch8 ∗ sem0 d L cc1_scratch9 ∗ sem0 d L cc1_scratch10 ∗ sem0 d L cc1_scratch11)
abbrev writeSems : sProp 𝕄 :=
  iprop(sem0 d L cc1_scratch12 ∗ sem0 d L cc1_scratch13 ∗ sem0 d L cc1_scratch14 ∗ sem0 d L cc1_scratch15
    ∗ sem0 d L cc1_scratch16 ∗ sem0 d L cc1_scratch17 ∗ sem0 d L cc1_scratch18 ∗ sem0 d L cc1_scratch19)

set_option maxHeartbeats 4000000 in
/-- The task from the barrier on looks up the tile's 512 rows and leaves them in the result. -/
theorem lookups_run (hr : InRange m) (O : CellTallies nD τ sig (HIx 1)) (W : Waits sig (HIx 1)) (hO : ∀ g, O g none = 0) (q : PosShare TreeShare)
    (fr : Buf (Elt F) (rowLoc d L)) (fo : Buf (Elt F) (outLoc d)) :
    iprop(levAts (K (F := F)).L (K (F := F)).lev ∗ (lstLoc d L ↦{fullShare} lstV m d L) ∗ (rowLoc d L ↦{fullShare} fr) ∗ tileOut d (tcI L) fo
        ∗ (shLoc d (cV L) ↦{q} shTab m d (cV L)) ∗ gatherSems d L ∗ writeSems d L ∗ owes (VT d L) O W)
      ⊢ wp frame (wpE (defs₀ (F := F)) 𝒱₀ (VT d L) none) Set.univ (lookups (F := F) L)
          fun _ => iprop((lstLoc d L ↦{fullShare} lstV m d L) ∗ (∃ f, rowLoc d L ↦{fullShare} f) ∗ tileOut d (tcI L) (outG m d)
            ∗ (shLoc d (cV L) ↦{q} shTab m d (cV L)) ∗ gatherSems d L ∗ writeSems d L
            ∗ ∃ W', ⌜∀ p ∈ W', p ∈ W ∨ p.2 = none⌝ ∗ owes (VT d L) O W') := by
  have hin0 := lstW_lt m d L hr inb_S512_S64_0
  have hin1 := lstW_lt m d L hr inb_S512_S64_64
  have hin2 := lstW_lt m d L hr inb_S512_S64_128
  have hin3 := lstW_lt m d L hr inb_S512_S64_192
  have hin4 := lstW_lt m d L hr inb_S512_S64_256
  have hin5 := lstW_lt m d L hr inb_S512_S64_320
  have hin6 := lstW_lt m d L hr inb_S512_S64_384
  have hin7 := lstW_lt m d L hr inb_S512_S64_448
  unfold lookups lookup landed copyOut written
  rw [lst_windows, row_windows, out_windows, sh_pieces]
  iintro ⟨#Hlv, ⟨Hl0, Hl1, Hl2, Hl3, Hl4, Hl5, Hl6, Hl7⟩, ⟨Hr0, Hr1, Hr2, Hr3, Hr4, Hr5, Hr6, Hr7⟩, ⟨Ho0, Ho1, Ho2, Ho3, Ho4, Ho5, Ho6, Ho7⟩,
    ⟨Hs0, Hs1, Hs2, Hs3, Hs4, Hs5, Hs6, Hs7⟩, ⟨Hg0, Hg1, Hg2, Hg3, Hg4, Hg5, Hg6, Hg7⟩, ⟨Hw0, Hw1, Hw2, Hw3, Hw4, Hw5, Hw6, Hw7⟩, HO⟩
  ihave Hmw := (show levAts (K (F := F)).L (K (F := F)).lev ⊢ Transfers.MayWaits (VT d L) (default : HIx 1) O from
    (K (F := F)).mayWaits_none (thr := VT d L) hO) $$ Hlv
  sl_exec
  sl_step
  isplitl [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  isplitl [Hr0 Hr1 Hr2 Hr3 Hr4 Hr5 Hr6 Hr7]
  · iapply (row_join d L _ _ _ _ _ _ _ _)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Ho0 Ho1 Ho2 Ho3 Ho4 Ho5 Ho6 Ho7]
  · iapply (Entails.of_eq (out_windows d L (outG m d)).symm)
    isplitl [Ho0]; · iapply (Entails.of_eq (outP_done m d L hr inb_S512_S64_0 inb_S512x128_S64x128_0_0 (k1_off3_inb L 0) (off3_0 L) 0 rfl hin0 fr fo)); iexact Ho0
    isplitl [Ho1]; · iapply (Entails.of_eq (outP_done m d L hr inb_S512_S64_64 inb_S512x128_S64x128_64_0 (k1_off3_inb L 1) (off3_1 L) 1 rfl hin1 fr fo)); iexact Ho1
    isplitl [Ho2]; · iapply (Entails.of_eq (outP_done m d L hr inb_S512_S64_128 inb_S512x128_S64x128_128_0 (k1_off3_inb L 2) (off3_2 L) 2 rfl hin2 fr fo)); iexact Ho2
    isplitl [Ho3]; · iapply (Entails.of_eq (outP_done m d L hr inb_S512_S64_192 inb_S512x128_S64x128_192_0 (k1_off3_inb L 3) (off3_3 L) 3 rfl hin3 fr fo)); iexact Ho3
    isplitl [Ho4]; · iapply (Entails.of_eq (outP_done m d L hr inb_S512_S64_256 inb_S512x128_S64x128_256_0 (k1_off3_inb L 4) (off3_4 L) 4 rfl hin4 fr fo)); iexact Ho4
    isplitl [Ho5]; · iapply (Entails.of_eq (outP_done m d L hr inb_S512_S64_320 inb_S512x128_S64x128_320_0 (k1_off3_inb L 5) (off3_5 L) 5 rfl hin5 fr fo)); iexact Ho5
    isplitl [Ho6]; · iapply (Entails.of_eq (outP_done m d L hr inb_S512_S64_384 inb_S512x128_S64x128_384_0 (k1_off3_inb L 6) (off3_6 L) 6 rfl hin6 fr fo)); iexact Ho6
    iapply (Entails.of_eq (outP_done m d L hr inb_S512_S64_448 inb_S512x128_S64x128_448_0 (k1_off3_inb L 7) (off3_7 L) 7 rfl hin7 fr fo)); iexact Ho7
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Hg0 Hg1 Hg2 Hg3 Hg4 Hg5 Hg6 Hg7]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | hp
  on_goal 17 => exact Or.inl hp
  all_goals exact Or.inr rfl

end Cert.Proof.KernelIdeal

end
-- ==== Proof.IdealTile.lean ====
/-
  A tile's whole task: its 512 indices on their way into its list, its own rows of the table into the shared memory, the
  barrier (each tile hands every other a piece of its rows, and has a piece of the whole table after it), then the
  lookups. And what the launch asks of the task at every tile of the call.
-/
module

public import proofs.«01_k».proof.Proof.IdealLookups

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid1.Coords)

/-! ## A tile's own semaphores and buffers -/

/-- The DMA semaphore of number `4 + k`: the nineteen the task uses. -/
abbrev tcell (k : Fin 19) : GSem nD τ sig := (VT d L, SemLoc.dma (⟨4 + k.val, by have := k.isLt; show 4 + k.val < 23; omega⟩ : DmaSem sig))

theorem tcell_own (k : Fin 19) : tcell d L k ∈ ownCells (VT d L) :=
  mem_ownCells.mpr ⟨rfl, by
    have h : ∀ k : Fin 19, (SemLoc.dma (⟨4 + k.val, by have := k.isLt; show 4 + k.val < 23; omega⟩ : DmaSem sig) : SemLoc sig).isScoped .scVector = true := by decide
    exact h k⟩

theorem tcell_inj : Function.Injective (tcell d L) := fun a b h => by
  have h2 := congrArg Prod.snd h
  simp only [SemLoc.dma.injEq, Fin.mk.injEq] at h2
  exact Fin.ext (by omega)

/-- Nineteen factors, written out. -/
theorem bigSep_nineteen (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [show (Finset.univ : Finset (Fin 19)) = {0, 1, 2, 3, 4, 5, 6, 7, 8, 9, 10, 11, 12, 13, 14, 15, 16, 17, 18} by decide]
  repeat rw [SparseCore.bigSep_insert' (by decide)]
  rw [bigSep_singleton]

/-- A tile's semaphores at zero: the nineteen, and the rest. -/
theorem ownSems0_VT :
    (ownSems0 (VT d L) : sProp 𝕄)
      = iprop((sem0 d L cc1_scratch3
          ∗ sem0 d L cc1_scratch4 ∗ sem0 d L cc1_scratch5 ∗ sem0 d L cc1_scratch6 ∗ sem0 d L cc1_scratch7
          ∗ sem0 d L cc1_scratch8 ∗ sem0 d L cc1_scratch9 ∗ sem0 d L cc1_scratch10 ∗ sem0 d L cc1_scratch11
          ∗ sem0 d L cc1_scratch12 ∗ sem0 d L cc1_scratch13 ∗ sem0 d L cc1_scratch14 ∗ sem0 d L cc1_scratch15
          ∗ sem0 d L cc1_scratch16 ∗ sem0 d L cc1_scratch17 ∗ sem0 d L cc1_scratch18 ∗ sem0 d L cc1_scratch19
          ∗ sem0 d L cc1_scoped0 ∗ sem0 d L cc1_scoped1)
          ∗ bigSep (ownCells (VT d L) \ Finset.univ.image (tcell d L)) fun g => semVal g 0) := by
  unfold SparseCore.Cfg.ownSems0
  rw [SparseCore.bigSep_sdiff_split' (t := Finset.univ.image (tcell d L)) (Finset.image_subset_iff.mpr fun k _ => tcell_own d L k),
    SparseCore.bigSep_image_of_injOn (tcell_inj d L).injOn, bigSep_nineteen]
  rfl

/-- A tile's two scratch buffers are among its own. -/
theorem ownBufs_VT :
    (ownBufs (VT d L) : sProp 𝕄)
      = iprop((∃ f, lstLoc d L ↦{fullShare} f) ∗ (∃ f, rowLoc d L ↦{fullShare} f)
          ∗ bigSep (((ownRefs (τ := τ) (.scVector (cV L) (jV L))).erase ((Proc.scVector (cV L) (jV L)).devRef cc1_scratch0)).erase
              ((Proc.scVector (cV L) (jV L)).devRef cc1_scratch1)) fun b => iprop(∃ f, ((d, b) : Loc nD τ sig) ↦{fullShare} f)) := by
  have h0 := SparseCore.Cfg.mem_ownRefs_of_owner (p := Proc.scVector (cV L) (jV L)) (b := (Proc.scVector (cV L) (jV L)).devRef cc1_scratch0) rfl
  have h1 := SparseCore.Cfg.mem_ownRefs_of_owner (p := Proc.scVector (cV L) (jV L)) (b := (Proc.scVector (cV L) (jV L)).devRef cc1_scratch1) rfl
  have hne : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  unfold SparseCore.Cfg.ownBufs
  rw [SparseCore.bigSep_erase' h0, SparseCore.bigSep_erase' (Finset.mem_erase.mpr ⟨hne, h1⟩)]

/-! ## What crosses the barrier -/

/-- What tile `n` hands tile `j`: tile `n`'s rows of the shared table, at tile `j`'s piece. -/
theorem bPay_bar (c : Fin τ.nSC) (j n : Fin 16) :
    bPay m (bcell d c (subOf (F := F) j)) n.val = (shLoc d c ↦[shRows n]{shPiece j} shTab m d c : sProp 𝕄) :=
  dif_pos n.isLt

/-- A tile's rows, staged, are the sixteen pieces it hands over. -/
theorem pays_intro : (shLoc d (cV L) ↦[shRows (jI L)]{fullShare} shTab m d (cV L) : sProp 𝕄)
    ⊢ bigSep Finset.univ fun j : Fin (grid1.bound 1) => (bRd m).payload (bcell d (cV L) (j.castLE hsub1)) 0 (jV L).val := by
  refine Entails.of_eq ((pointsTo_piecesOf (ℓ := shLoc d (cV L)) (shRows (jI L)) (shTab m d (cV L)) (o := 16) (by decide) fullShare).trans ?_)
  refine bigSep_congr fun j _ => ?_
  exact (bPay_bar m d (cV L) j (jI L)).symm

/-- What it collects from the sixteen is its piece of the whole table. -/
theorem pays_elim : (bigSep ((bRd m).duties (bcell d (cV L) (jV L)) 0 \ ∅) fun n => (bRd m).payload (bcell d (cV L) (jV L)) 0 n)
    ⊢ (shLoc d (cV L) ↦{shPiece (jI L)} shTab m d (cV L) : sProp 𝕄) := by
  rw [Finset.sdiff_empty, bRd_duties_zero, SparseCore.bigSep_image_of_injOn Fin.val_injective.injOn, shPts_rows]
  refine Entails.of_eq (bigSep_congr fun n _ => ?_)
  exact bPay_bar m d (cV L) (jI L) n

/-- The list, once the tile's indices are copied into it. -/
theorem lst_done (f : Buf (Elt F) (lstLoc d L)) :
    ((lstM).view.loc (VT d L) ↦{fullShare} (lstM).view.write (Elt F) f ((ixSl L).view.read (Elt F) (m (ixLoc d))) Finset.univ : sProp 𝕄)
      = lstLoc d L ↦{fullShare} lstV m d L := by
  refine pointsTo_congr fun x _ => ?_
  exact View.write_emb_of_mem (v := (lstM).view) _ _ (Finset.mem_univ x)

set_option maxHeartbeats 4000000 in
/-- The task from the barrier on: its rows of the shared memory handed over piece by piece, its piece of the whole table
    received, its barrier cell closed, then the lookups. -/
theorem barrier_on (hr : InRange m) (O : CellTallies nD τ sig (HIx 1)) (W : Waits sig (HIx 1)) (hO : ∀ g, O g none = 0)
    (hOlev : ∀ g ι, 0 < O g ι → 8 * (0 : Fin 1).val + 6 ≤ (K (F := F)).lev g ι) (κ : GSem nD τ sig → ℕ)
    (fr : Buf (Elt F) (rowLoc d L)) (fo : Buf (Elt F) (outLoc d)) :
    iprop(levAts (K (F := F)).L (K (F := F)).lev
        ∗ (bigSep Finset.univ fun j : Fin (grid1.bound 1) => cellInv EB (bRd m) (κ (bcell d (cV L) (j.castLE hsub1))) (bcell d (cV L) (j.castLE hsub1)))
        ∗ (bigSep Finset.univ fun j : Fin (grid1.bound 1) => dutyTok EB (bcell d (cV L) (j.castLE hsub1)) 0 (jV L).val)
        ∗ (bigSep Finset.univ fun j : Fin (grid1.bound 1) => reached EB (bcell d (cV L) (j.castLE hsub1)) 0)
        ∗ atPos EB (bcell d (cV L) (jV L)) 0 ∅ 0
        ∗ cred (tallyAt (bcell d (cV L) (jV L)) (some 0) (grid1.bound 1))
        ∗ (shLoc d (cV L) ↦[shRows (jI L)]{fullShare} shTab m d (cV L))
        ∗ (lstLoc d L ↦{fullShare} lstV m d L) ∗ (rowLoc d L ↦{fullShare} fr) ∗ tileOut d (tcI L) fo
        ∗ gatherSems d L ∗ writeSems d L ∗ owes (VT d L) (O + oxV d (cV L)) W)
      ⊢ wp frame (wpE (defs₀ (F := F)) 𝒱₀ (VT d L) none) Set.univ
          (do
            SparseCore.subcoreBarrier sc_bar0 (grid1.bound 1) hsub1
            lookups L)
          fun _ => iprop((lstLoc d L ↦{fullShare} lstV m d L) ∗ (∃ f, rowLoc d L ↦{fullShare} f) ∗ tileOut d (tcI L) (outG m d)
            ∗ (shLoc d (cV L) ↦{shPiece (jI L)} shTab m d (cV L)) ∗ gatherSems d L ∗ writeSems d L ∗ barZero d (cV L) (jV L)
            ∗ ∃ W', ⌜∀ p ∈ W', p ∈ W ∨ p.2 = none ∨ p.2 = some (0 : Fin 1)⌝ ∗ owes (VT d L) O W') := by
  iintro ⟨#Hlv, #Hinv, Htoks, #Hrch, Hat, Hcred, Hsh, Hlst, Hrow, Hout, Hg, Hw, HO⟩
  ihave Hpays := (pays_intro m d L) $$ Hsh
  iapply (SparseCore.wp_subcoreBarrier 𝒱₀ none EB (bRd m) d (sc := cV L) (i := jV L) sc_bar0 (grid1.bound 1) hsub1 (L 1) rfl κ (fun _ => 0) (jV L).val
      (fun j => bRd_mem m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := VT d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_later m _)) $$ [Hat] with Hbar
  · isplitr
    · iapply (SparseCore.ent (bigSep_elim (Φ := fun j : Fin (grid1.bound 1) =>
        (cellInv EB (bRd m) (κ (bcell d (cV L) (j.castLE hsub1))) (bcell d (cV L) (j.castLE hsub1)) : sProp 𝕄)) (Finset.mem_univ (L 1)))); iexact Hinv
    · iexact Hat
  ihave Hmine := (pays_elim m d L) $$ Hgot
  iapply (wp_wand_r _ _ _)
  isplitl [Hlst Hrow Hout Hmine Hg Hw HO]
  · iapply (lookups_run m d L hr O _ hO (shPiece (jI L)) fr fo)
    isplitr; · iexact Hlv
    isplitl [Hlst]; · iexact Hlst
    isplitl [Hrow]; · iexact Hrow
    isplitl [Hout]; · iexact Hout
    isplitl [Hmine]; · iexact Hmine
    isplitl [Hg]; · iexact Hg
    isplitl [Hw]; · iexact Hw
    iexact HO
  iintro %u ⟨Hlst, Hrow, Hout, Hmine, Hg, Hw, %W', %hW', HO⟩
  isplitl [Hlst]; · iexact Hlst
  isplitl [Hrow]; · iexact Hrow
  isplitl [Hout]; · iexact Hout
  isplitl [Hmine]; · iexact Hmine
  isplitl [Hg]; · iexact Hg
  isplitl [Hw]; · iexact Hw
  isplitl [Hbar]; · iexact Hbar
  iexists W'; isplitr
  · ipureintro; intro p hp
    rcases hW' p hp with h | h
    · rcases Finset.mem_insert.mp h with rfl | h
      · exact Or.inr (Or.inr rfl)
      · exact Or.inl h
    · exact Or.inr (Or.inl h)
  iexact HO

set_option maxHeartbeats 4000000 in
/-- The task on tile `(L 0, L 1)`: from its pieces of the table and the indices, its rows of the result and of the
    shared memory, to its rows of the result looked up and its piece of the shared table. -/
theorem tile_body (hr : InRange m) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tileIn m d (tcI L) ∗ tileShared d (cV L) (jI L))
        ∗ scopedBufs (VT d L) ∗ scopedSems0 (VT d L) ∗ owes (VT d L) (O + oxV d (cV L)) W)
      ⊢ wp frame (wpE (defs₀ (F := F)) 𝒱₀ (VT d L) none) Set.univ
          (cc1__gather_kernel L tabM (Memref.isWhole_whole _) ixM (Memref.isWhole_whole _) outM (Memref.isWhole_whole _) lstM (Memref.isWhole_whole _)
            rowM (Memref.isWhole_whole _) shM (Memref.isWhole_whole _) cc1_scratch3 cc1_scratch4 cc1_scratch5 cc1_scratch6 cc1_scratch7 cc1_scratch8
            cc1_scratch9 cc1_scratch10 cc1_scratch11 cc1_scratch12 cc1_scratch13 cc1_scratch14 cc1_scratch15 cc1_scratch16 cc1_scratch17 cc1_scratch18
            cc1_scratch19 cc1_scoped0 cc1_scoped1)
          fun _ => iprop((((tileReads m d (tcI L) ∗ tileOut d (tcI L) (outG m d)) ∗ barZero d (cV L) (jV L))
              ∗ shLoc d (cV L) ↦{shPiece (jI L)} shTab m d (cV L))
            ∗ scopedBufs (VT d L) ∗ scopedSems0 (VT d L)
            ∗ ∃ W', ⌜∀ p ∈ W', p ∈ W ∨ p.2 = none ∨ p.2 = some (0 : Fin 1)⌝ ∗ owes (VT d L) O W') := by
  simp only [cc1__gather_kernel_eq_skeleton]
  unfold cc1__gather_kernel_skel
  simp only [k1_part1_eq_skeleton, k1_part2_eq_skeleton, k1_part3_eq_skeleton, k1_part4_eq_skeleton, k1_part5_eq_skeleton, k1_part6_eq_skeleton]
  unfold k1_part1_skel
  rw [(K (F := F)).scopedBufs_V hF d (cV L) (jV L), SparseCore.Cfg.scopedSems0_V (Val := Elt F) d (cV L) (jV L), ownSems0_VT, ownBufs_VT]
  unfold bkit
  iintro ⟨#Hlv, ⟨⟨%κ, #Hinv⟩, Htoks, #Hrch, Hat, Hcred⟩, ⟨⟨⟨Htab, Hix⟩, Hout⟩, ⟨%fs, Hsh⟩⟩, ⟨⟨%fl, Hlst⟩, ⟨%fr, Hrow⟩, Hbufs⟩,
    ⟨⟨Hi, Hg0, Hg1, Hg2, Hg3, Hg4, Hg5, Hg6, Hg7, Hw0, Hw1, Hw2, Hw3, Hw4, Hw5, Hw6, Hw7, Ha, Hb⟩, Hsems⟩, HO⟩
  have hO' : ∀ g, (O + oxV d (cV L)) g none = 0 := fun g => by rw [Pi.add_apply, Finsupp.add_apply, hO g, oxV_none]
  ihave Hmw := (show levAts (K (F := F)).L (K (F := F)).lev ⊢ Transfers.MayWaits (VT d L) (default : HIx 1) (O + oxV d (cV L)) from
    (K (F := F)).mayWaits_none (thr := VT d L) hO') $$ Hlv
  ihave Htab' := (show (tabLoc d ↦{tilePiece (tcI L)} tab m d : sProp 𝕄) ⊢ (tabM).view.loc (VT d L) ↦{tilePiece (tcI L)} tab m d from Entails.refl _) $$ Htab
  ihave Hix' := (show (ixLoc d ↦{tilePiece (tcI L)} m (ixLoc d) : sProp 𝕄) ⊢ (ixM).view.loc (VT d L) ↦{tilePiece (tcI L)} m (ixLoc d) from Entails.refl _) $$ Hix
  ihave Hlst' := (show (lstLoc d L ↦{fullShare} fl : sProp 𝕄) ⊢ (lstM).view.loc (VT d L) ↦{fullShare} fl from Entails.refl _) $$ Hlst
  by_cases h15 : (L 1).val < 15
  on_goal 1 =>
    have hc1 : k1_cond1 L = 1#1 := (cond1_iff L).mpr h15
    have hc2 : ¬ (Scalar.cmpi .ne (Scalar.extui (Scalar.cmpi .eq (BitVec.ofNat 32 (L 1).val) 15#32) : BitVec 32) 0#32 = 1#1) :=
      fun h => (cond2_iff L).mp h h15
    ihave Hsh' := (Entails.of_eq (pts_shOwn (F := F) d L hc1 _ _).symm) $$ Hsh
    sl_exec
    rw [← View.write_univ_eq_writes_whole (shOwn L hc1).view fs [], View.writes_nil,
      show tile_body.sl.dma0_1 m d L hc1 = (tabOwn L hc1).view.read (Elt F) (tab m d) from rfl]
    ihave Hmine := (Entails.of_eq (shOwn_write m d L hc1 fs)) $$ Hsh'
    rw [show tile_body.sl.dma0 m d L = (ixSl L).view.read (Elt F) (m (ixLoc d)) from rfl]
  on_goal 2 =>
    have hc1 : ¬ k1_cond1 L = 1#1 := fun h => h15 ((cond1_iff L).mp h)
    have hc2 : Scalar.cmpi .ne (Scalar.extui (Scalar.cmpi .eq (BitVec.ofNat 32 (L 1).val) 15#32) : BitVec 32) 0#32 = 1#1 := (cond2_iff L).mpr h15
    ihave Hsh' := (Entails.of_eq (pts_shLast (F := F) d L h15 _ _).symm) $$ Hsh
    sl_exec
    rw [← View.write_univ_eq_writes_whole (shLast).view fs [], View.writes_nil,
      show tile_body.sl.dma0_3 m d = (tabLast).view.read (Elt F) (tab m d) from rfl]
    ihave Hmine := (Entails.of_eq (shLast_write m d L h15 fs)) $$ Hsh'
    rw [show tile_body.sl.dma0_2 m d L = (ixSl L).view.read (Elt F) (m (ixLoc d)) from rfl]
  all_goals
    ihave Hlst := (Entails.of_eq (lst_done m d L fl)) $$ Hlst'
    iapply (wp_wand_r _ _ _)
    isplitl [Htoks Hat Hcred Hmine Hlst Hrow Hout Hg0 Hg1 Hg2 Hg3 Hg4 Hg5 Hg6 Hg7 Hw0 Hw1 Hw2 Hw3 Hw4 Hw5 Hw6 Hw7 HO]
    · iapply (barrier_on m d L hr O _ hO hOlev κ fr (m (outLoc d)))
      isplitr; · iexact Hlv
      isplitr; · iexact Hinv
      isplitl [Htoks]; · iexact Htoks
      isplitr; · iexact Hrch
      isplitl [Hat]; · iexact Hat
      isplitl [Hcred]; · iexact Hcred
      isplitl [Hmine]; · iexact Hmine
      isplitl [Hlst]; · iexact Hlst
      isplitl [Hrow]; · iexact Hrow
      isplitl [Hout]; · iexact Hout
      isplitl [Hg0 Hg1 Hg2 Hg3 Hg4 Hg5 Hg6 Hg7]
      · isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        iexact Hg7
      isplitl [Hw0 Hw1 Hw2 Hw3 Hw4 Hw5 Hw6 Hw7]
      · isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        isplitl [Hw6]; · iexact Hw6
        iexact Hw7
      iexact HO
    iintro %u ⟨Hlst, Hrow, Hout, Hmine, ⟨Hg0, Hg1, Hg2, Hg3, Hg4, Hg5, Hg6, Hg7⟩, ⟨Hw0, Hw1, Hw2, Hw3, Hw4, Hw5, Hw6, Hw7⟩, Hbar, %W', %hW', HO⟩
    isplitl [Htab' Hix' Hout Hbar Hmine]
    · isplitl [Htab' Hix' Hout Hbar]
      · isplitl [Htab' Hix' Hout]
        · isplitl [Htab' Hix']
          · isplitl [Htab']; · iexact Htab'
            iexact Hix'
          iexact Hout
        iexact Hbar
      iexact Hmine
    isplitl [Hlst Hrow Hbufs]
    · isplitl [Hlst]; · iexists _; iexact Hlst
      isplitl [Hrow]; · iexact Hrow
      iexact Hbufs
    isplitl [Hi Hg0 Hg1 Hg2 Hg3 Hg4 Hg5 Hg6 Hg7 Hw0 Hw1 Hw2 Hw3 Hw4 Hw5 Hw6 Hw7 Ha Hb Hsems]
    · isplitr [Hsems]
      · isplitl [Hi]; · iexact Hi
        isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [Hg7]; · iexact Hg7
        isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        isplitl [Hw6]; · iexact Hw6
        isplitl [Hw7]; · iexact Hw7
        isplitl [Ha]; · iexact Ha
        iexact Hb
      iexact Hsems
    iexists W'; isplitr
    · ipureintro; intro p hp
      rcases hW' p hp with h | h
      · rcases Finset.mem_insert.mp h with rfl | h
        · exact Or.inr (Or.inl rfl)
        · rcases Finset.mem_insert.mp h with rfl | h
          · exact Or.inr (Or.inl rfl)
          · exact Or.inl h
      · exact Or.inr h
    iexact HO

/-! ## The obligation of the call's tiles -/

/-- The grid's point for SparseCore `c` and tile `s`. -/
def tileAt (c : Fin (grid1.bound 0)) (s : Fin (grid1.bound 1)) : grid1.Coords := fun
  | 0 => c
  | 1 => s
  | ⟨_ + 2, h⟩ => absurd h (Nat.not_lt.2 (Nat.le_add_left _ _))

/-- A vector subcore's body of the call: the task at its point of the grid. -/
theorem defs_vector (c : Fin τ.nSC) (s : Fin τ.nSub) :
    defs₀ (F := F) (.scVector c s) 1 ()
      = SparseCore.onTile hcore1 hsub1 (fun c s => cc1__gather_kernel (tileAt c s) tabM (Memref.isWhole_whole _) ixM (Memref.isWhole_whole _)
          outM (Memref.isWhole_whole _) lstM (Memref.isWhole_whole _) rowM (Memref.isWhole_whole _) shM (Memref.isWhole_whole _)
          cc1_scratch3 cc1_scratch4 cc1_scratch5 cc1_scratch6 cc1_scratch7 cc1_scratch8 cc1_scratch9 cc1_scratch10 cc1_scratch11 cc1_scratch12
          cc1_scratch13 cc1_scratch14 cc1_scratch15 cc1_scratch16 cc1_scratch17 cc1_scratch18 cc1_scratch19 cc1_scoped0 cc1_scoped1) ⟨⟩ c s := rfl

/-- What the launch asks of the task, at every tile of the call's grid. -/
theorem tileObl (hr : InRange m) (hF : (K (F := F)).Facts) : (K (F := F)).TileObl (P := P m) D 𝒱 v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector _ _) 1 ())) _
  refine BI.Entails.trans ?_ (Pipeline.wp_liftProg D (Pipeline.defs_kernel pcfgs defs₀) 𝒱₀ _ Set.univ none _ _)
  rw [defs_vector]
  simp only [SparseCore.onTile, hci, and_self, ↓reduceDIte]
  exact tile_body m d (tileAt ⟨_, hci.1⟩ ⟨_, hci.2⟩) hr hF O W hO hOlev

end Cert.Proof.KernelIdeal

end
-- ==== Proof.IdealRegion.lean ====
/-
  The TensorCore's part before the SparseCore call: three host operations (the embedding table transposed, the weights
  transposed, the bias as one row) and the kernel that fuses them into the table the tiles look rows up in. The kernel is
  one grid point over whole arrays; the core enters it owing the SparseCore call's starts, and leaves it owing the same.
-/
module

public import proofs.«01_k».proof.Proof.IdealSetup
public import Idealize.ShloMosaic.Lib.Pipeline.Regions
public import Idealize.ShloMosaic.Lib.Pipeline.Frame

@[expose] public section

noncomputable section

namespace Cert.Proof.KernelIdeal

open Cert.KernelIdeal Cert.KernelIdeal.Gen

open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

/-! ## The host operations -/

/-- The three, in order. -/
def hostOps : List (HloOp τ sig (Elt F)) :=
  [StableHlo.unary main_arg1 main_v0 ((transpose S64x1000 [1, 0] · transposes_S1000x64_S64x1000_1_0) : (⟨S1000x64, .f32⟩ : BufTy).Contents (Elt F) → (⟨S64x1000, .f32⟩ : BufTy).Contents (Elt F)),
    StableHlo.unary main_arg2 main_v1 ((transpose S64x128 [1, 0] · transposes_S128x64_S64x128_1_0) : (⟨S128x64, .f32⟩ : BufTy).Contents (Elt F) → (⟨S64x128, .f32⟩ : BufTy).Contents (Elt F)),
    StableHlo.reshape main_arg3 main_v2 (rfl : (.f32 : EltTy) = .f32) shapeCasts_S128_S1x128]

theorem main_eq : main (F := F) d = (StableHlo.seq hostOps >>= fun _ =>
    (SparseCore.liftProg (.op (.customCall (Pipeline.entry 0) ()) .ret)) >>= fun _ => (K (F := F)).run d 0) := by
  rfl

/-- A core's buffers at launch, -/
abbrev W₀ : Valuation τ sig (Elt F) := fun b => m (d, b)
/-- and once the three have run. -/
def W₁ : Valuation τ sig (Elt F) := StableHlo.after hostOps (W₀ m d)

theorem W₁_v0 : W₁ m d (Proc.devRef .tc main_v0) = transpose S64x1000 [1, 0] (m (embLoc d)) transposes_S1000x64_S64x1000_1_0 := by
  rfl

theorem W₁_v1 : W₁ m d (Proc.devRef .tc main_v1) = transpose S64x128 [1, 0] (m (wLoc d)) transposes_S128x64_S64x128_1_0 := by
  rfl
theorem W₁_v2 : W₁ m d (Proc.devRef .tc main_v2) = shapeCast S1x128 (m (bLoc d)) shapeCasts_S128_S1x128 := by
  rfl
/-- The operations write no other buffer. -/
theorem W₁_other (b : Ref sig .tc) (h0 : b ≠ main_v0) (h1 : b ≠ main_v1) (h2 : b ≠ main_v2) :
    W₁ m d (Proc.devRef .tc b) = m (d, Proc.devRef .tc b) :=
  StableHlo.after_of_forall_not_mem (b := Proc.devRef .tc b) hostOps (W₀ m d) fun op hop => by
    simp only [hostOps, List.mem_cons, List.mem_nil_iff, or_false] at hop
    rcases hop with rfl | rfl | rfl
    · rw [StableHlo.unary_writes, Finset.mem_singleton]; exact StableHlo.devRef_ne_of_ne h0
    · rw [StableHlo.unary_writes, Finset.mem_singleton]; exact StableHlo.devRef_ne_of_ne h1
    · rw [show (StableHlo.reshape main_arg3 main_v2 (rfl : (.f32 : EltTy) = .f32) shapeCasts_S128_S1x128 : HloOp τ sig (Elt F)).writes
        = {Proc.devRef .tc main_v2} from rfl, Finset.mem_singleton]; exact StableHlo.devRef_ne_of_ne h2

/-! ## The kernel's one point -/

abbrev adm : (p : Fin 1) → (pcfgs (F := F) p).Adm := fun p => (cfgs p).toPCfg_adm

/-- The three arrays the kernel reads. -/
abbrev embT : FVec F S64x1000 .f32 := transpose S64x1000 [1, 0] (m (embLoc d)) transposes_S1000x64_S64x1000_1_0
abbrev wT : FVec F S64x128 .f32 := transpose S64x128 [1, 0] (m (wLoc d)) transposes_S128x64_S64x128_1_0
abbrev biasRow : FVec F S1x128 .f32 := shapeCast S1x128 (m (bLoc d)) shapeCasts_S128_S1x128

/-- The proof data: the arrays as the host operations left them; after the body the three inputs as fetched and the
    result at the table; nothing between the region's ends; the core owing the starts throughout, its recorded waits
    all at the lowest level. -/
def dats (_ : Fin 1) (c : Dev nD) : Dat τ (Elt F) (HIx 1) ℕ UU ℕ cfg0 c where
  A w := W₁ m c (Proc.devRef .tc (Pipeline.arrRef spec0 w))
  after w _ := match w with
    | ⟨0, _⟩ => embT m c
    | ⟨1, _⟩ => wT m c
    | ⟨2, _⟩ => biasRow m c
    | ⟨3, _⟩ => tab m c
  Φ _ := iprop(emp)
  q _ := fullShare
  owed _ := (K (F := F)).Otc c 0
  recorded _ := {p | (K (F := F)).lev (SparseCore.T c, p.1) p.2 = 0}

theorem A_eq (c : Dev nD) (w : Fin cfg0.W) : (dats m 0 c).A w = W₁ m c (Proc.devRef .tc (Pipeline.arrRef spec0 w)) := by
  dsimp only [dats]

/-- The kernel has one grid point, whose blocks are the whole arrays: a block read is the array. -/
theorem read_v0 (c : Dev nD) (f : Buf (Elt F) ((c : Thread nD τ).loc main_v0)) : (win0_0.blk t0_0).view.read (Elt F) f = f :=
  Memref.read_access_unit_zero (Elt F) main_v0
    (show (fun a => (win0_0.index t0_0) a * main_v0.ty.shape.size a) = fun _ => 0 from funext fun a => by fin_cases a <;> decide)
    (fun a => by fin_cases a <;> decide) f
theorem read_v1 (c : Dev nD) (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f
theorem read_v2 (c : Dev nD) (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from funext fun a => by fin_cases a <;> decide)
    (fun a => by fin_cases a <;> decide) f
theorem read_v3 (c : Dev nD) (f : Buf (Elt F) ((c : Thread nD τ).loc main_v3)) : (win0_3.blk t0_0).view.read (Elt F) f = f :=
  Memref.read_access_unit_zero (Elt F) main_v3
    (show (fun a => (win0_3.index t0_0) a * main_v3.ty.shape.size a) = fun _ => 0 from funext fun a => by fin_cases a <;> decide)
    (fun a => by fin_cases a <;> decide) f

/-- So the body finds in each input window the array itself. -/
theorem before_0 (c : Dev nD) (x : (cfg0.win 0).block.Idx → Elt F (cfg0.win 0).elt) : (dats m 0 c).before 0 t0_0 x = embT m c := by
  unfold Dat.before; rw [if_pos (by decide)]
  show (win0_0.blk t0_0).view.read (Elt F) ((dats m 0 c).A 0) = _
  rw [A_eq]; exact (read_v0 c _).trans (W₁_v0 m c)
theorem before_1 (c : Dev nD) (x : (cfg0.win 1).block.Idx → Elt F (cfg0.win 1).elt) : (dats m 0 c).before 1 t0_0 x = wT m c := by
  unfold Dat.before; rw [if_pos (by decide)]
  show (win0_1.blk t0_0).view.read (Elt F) ((dats m 0 c).A 1) = _
  rw [A_eq]; exact (read_v1 c _).trans (W₁_v1 m c)
theorem before_2 (c : Dev nD) (x : (cfg0.win 2).block.Idx → Elt F (cfg0.win 2).elt) : (dats m 0 c).before 2 t0_0 x = biasRow m c := by
  unfold Dat.before; rw [if_pos (by decide)]
  show (win0_2.blk t0_0).view.read (Elt F) ((dats m 0 c).A 2) = _
  rw [A_eq]; exact (read_v2 c _).trans (W₁_v2 m c)

/-- and the run writes the table back over the whole result array. -/
theorem final_v3 (c : Dev nD) : (dats m 0 c).arrAt 3 cfg0.N = tab m c := by
  have hw : ((cfg0.win 3).blk t0_0).view.read (Elt F) ((dats m 0 c).arrAt 3 cfg0.N) = (dats m 0 c).flushed 3 t0_0 := by
    rw [show cfg0.N = t0_0.val + 1 from rfl, (dats m 0 c).arrAt_succ (3 : Fin 4) t0_0, flush0_3, if_pos rfl]
    exact View.read_write_univ _ _
  have hf : (dats m 0 c).flushed 3 t0_0 = tab m c := by
    show (cfg0.win 3).cut _ ((dats m 0 c).after 3 t0_0) = _
    exact funext fun _ => rfl
  exact (read_v3 c _).symm.trans (hw.trans hf)

/-! ## The body -/

/-- The body over its four staging buffers: three loads, the table stored over whatever the fourth held. -/
theorem fuse_run (c : Dev nD) (e : FVec F S64x1000 .f32) (w : FVec F S64x128 .f32) (b : FVec F S1x128 .f32) (f : FVec F S1000x128 .f32)
    (O : CellTallies nD τ sig (HIx 1)) (W : Waits sig (HIx 1)) (Q : PUnit → sProp 𝕄) :
    iprop(((Memref.whole cc0_stg0_0).view.loc (c : Thread nD τ) ↦{fullShare} e) ∗ ((Memref.whole cc0_stg1_0).view.loc (c : Thread nD τ) ↦{fullShare} w)
      ∗ ((Memref.whole cc0_stg2_0).view.loc (c : Thread nD τ) ↦{fullShare} b) ∗ ((Memref.whole cc0_stg3_0).view.loc (c : Thread nD τ) ↦{fullShare} f)
      ∗ owes (c : Thread nD τ) O W
      ∗ (iprop(((Memref.whole cc0_stg0_0).view.loc (c : Thread nD τ) ↦{fullShare} e) ∗ ((Memref.whole cc0_stg1_0).view.loc (c : Thread nD τ) ↦{fullShare} w)
          ∗ ((Memref.whole cc0_stg2_0).view.loc (c : Thread nD τ) ↦{fullShare} b) ∗ ((Memref.whole cc0_stg3_0).view.loc (c : Thread nD τ) ↦{fullShare} k0_pay1 e w b)
          ∗ owes (c : Thread nD τ) O W) -∗ Q ⟨⟩))
    ⊢ wp frame (wpE (defs₀ (F := F)) 𝒱₀ (c : Thread nD τ) none) Set.univ
        (cc0__fuse_table_body (Memref.whole cc0_stg0_0) (hstage0_0 0) (Memref.whole cc0_stg1_0) (hstage0_1 0)
          (Memref.whole cc0_stg2_0) (hstage0_2 0) (Memref.whole cc0_stg3_0) (hstage0_3 0)) Q := by
  rw [cc0__fuse_table_body_eq_skeleton]; unfold cc0__fuse_table_body_skel
  iintro ⟨H0, H1, H2, H3, HO, Hk⟩
  sl_exec!
  sl_step
  iapply Hk
  isplitl [H0]; · iexact H0
  isplitl [H1]; · iexact H1
  isplitl [H2]; · iexact H2
  isplitl [H3]
  · rw [show (Memref.whole cc0_stg3_0).view.writes (Elt F) (Memref.whole cc0_stg3_0).view.junk (fuse_run.sl.H3_1 e w b)
      = k0_pay1 e w b from by
        have hz : (![0, 0] : Fin 2 → ℕ) = fun _ => 0 := funext fun a => by fin_cases a <;> rfl
        unfold fuse_run.sl.H3_1
        have h0 : View.readAt (Elt F) (Memref.whole cc0_stg0_0).view (Rect.unit (s := S64x1000) ![0, 0] S64x1000.size inb_S64x1000_S64x1000_0_0).toLoadRect e = e :=
          Memref.readAt_unit_zero (Elt F) cc0_stg0_0 hz _ _
        have h1 : View.readAt (Elt F) (Memref.whole cc0_stg1_0).view (Rect.unit (s := S64x128) ![0, 0] S64x128.size inb_S64x128_S64x128_0_0).toLoadRect w = w :=
          Memref.readAt_unit_zero (Elt F) cc0_stg1_0 hz _ _
        have h2 : View.readAt (Elt F) (Memref.whole cc0_stg2_0).view (Rect.unit (s := S1x128) ![0, 0] S1x128.size inb_S1x128_S1x128_0_0).toLoadRect b = b :=
          Memref.readAt_unit_zero (Elt F) cc0_stg2_0 hz _ _
        rw [h0, h1, h2, View.writes_singleton]
        exact Memref.write_access_unit_zero_univ (Elt F) cc0_stg3_0 hz inb_S1000x128_S1000x128_0_0 _ (k0_pay1 e w b)]
    iexact H3
  iexact HO

/-- The body at its point. -/
theorem body_obligation (c : Dev nD) : BodyObligation (dats m 0 c) (defs₀ (F := F)) 𝒱₀ none Set.univ := fun t => by
  obtain rfl := fin_N0 t
  rw [bigSep_W0, bigSep_W0]
  simp only [owns_whole_eq]
  unfold Dat.owesAt Pipeline.owesWithin
  rw [show (dats m 0 c).Φ t0_0.castSucc = iprop(emp) from rfl, show (dats m 0 c).Φ t0_0.succ = iprop(emp) from rfl,
    show (dats m 0 c).owed t0_0.castSucc = (K (F := F)).Otc c 0 from rfl, show (dats m 0 c).owed t0_0.succ = (K (F := F)).Otc c 0 from rfl,
    show (dats m 0 c).bound none t0_0.castSucc = (dats m 0 c).bound none t0_0.succ from rfl]
  iintro ⟨-, ⟨%W, %hW, HO⟩, ⟨%x0, %f0, %hf0, H0⟩, ⟨%x1, %f1, %hf1, H1⟩, ⟨%x2, %f2, %hf2, H2⟩, ⟨%x3, %f3, %hf3, H3⟩⟩
  rw [before_0] at hf0
  rw [before_1] at hf1
  rw [before_2] at hf2
  subst hf0 hf1 hf2
  iapply (fuse_run c (embT m c) (wT m c) (biasRow m c) f3 ((K (F := F)).Otc c 0) W)
  isplitl [H0]; · iexact H0
  isplitl [H1]; · iexact H1
  isplitl [H2]; · iexact H2
  isplitl [H3]; · iexact H3
  isplitl [HO]; · iexact HO
  iintro ⟨H0, H1, H2, H3, HO⟩
  isplitr; · iempintro
  isplitl [HO]
  · iexists W; isplitr; · ipureintro; exact hW
    iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  iexists _; isplitr; swap; (· iexact H3); ipureintro; rfl

/-! ## The region -/

/-- What the core owes through the region: the starts, its recorded waits all at the lowest level. -/
abbrev tcOwes (c : Dev nD) : sProp 𝕄 :=
  iprop(∃ W, ⌜(K (F := F)).WBelow (SparseCore.T c) W (8 * SparseCore.Cfg.Blocks.fst (Q := 1) (N := 1) 0)⌝ ∗ owes (SparseCore.T c) ((K (F := F)).Otc c 0) W)

/-- What the region leaves: the table, the arguments and the result's buffer as launched (the three intermediates are
    let go). -/
abbrev fused (c : Dev nD) : sProp 𝕄 :=
  iprop((tabLoc c ↦{fullShare} tab m c) ∗ (ixLoc c ↦{fullShare} m (ixLoc c)) ∗ (embLoc c ↦{fullShare} m (embLoc c))
    ∗ (wLoc c ↦{fullShare} m (wLoc c)) ∗ (bLoc c ↦{fullShare} m (bLoc c)) ∗ (outLoc c ↦{fullShare} m (outLoc c)))

/-- Of the four arrays at the region's end, the table. -/
theorem arrays_tab (c : Dev nD) : (dats m 0 c).arrays ((dats m 0 c).arrAt · cfg0.N) ⊢ (tabLoc c ↦{fullShare} tab m c) := by
  unfold Pipeline.Dat.arrays
  rw [bigSep_W0, show (fun x => (dats m 0 c).arrAt x cfg0.N) 3 = tab m c from final_v3 m c, (dats m 0 c).share_full (fun _ => rfl) 3,
    show (cfg0.win 3).arr.view.set = Finset.univ from View.set_whole _]
  iintro ⟨-, -, -, H3⟩
  iexact H3

set_option backward.isDefEq.respectTransparency.types false in
/-- The region, entered with the buffers as the host operations left them and left with the table in place. -/
def reg : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation m c).loose
  hwaits c := Pipeline.cellsWaits_of_cut _ _ _ 0 c 0 ((K (F := F)).Otc c 0) (fun _ => rfl) (fun _ _ => Finset.mem_univ _)
    (fun _ _ => Nat.le_of_eq rfl)
    (fun g i h => ⟨Finset.mem_univ _, lt_of_lt_of_le (Nat.succ_pos _) ((K (F := F)).lev_of_Otc_pos h)⟩)
  pre c := iprop(StableHlo.held (c : Thread nD τ) (Pipeline.ucRefs τ sig) (W₁ m c) ∗ tcOwes c)
  post c := iprop(fused m c ∗ tcOwes c)
  X _ := iprop(emp)
  Y _ := iprop(emp)
  Z c := iprop((ixLoc c ↦{fullShare} m (ixLoc c)) ∗ (embLoc c ↦{fullShare} m (embLoc c))
    ∗ (wLoc c ↦{fullShare} m (wLoc c)) ∗ (bLoc c ↦{fullShare} m (bLoc c)) ∗ (outLoc c ↦{fullShare} m (outLoc c)))
  hentry c := by
    rw [show StableHlo.held (c : Thread nD τ) (Pipeline.ucRefs τ sig) (W₁ m c)
        = unscopedBufs c (fun b => W₁ m c (Proc.devRef .tc b)) from (Pipeline.unscopedBufs_held c (W₁ m c)).symm]
    have hsplit := (Pipeline.arrays_of_unscopedBufs (pcfgs (F := F)) adm (dats m) launch0.win launch0.arr_whole c
      ((dats m 0 c).share_full fun _ => rfl) (fun b => W₁ m c (Proc.devRef .tc b)) (A_eq m c)).trans
      (sep_mono .rfl (Entails.of_eq (unscopedRest0_eq c (fun b => W₁ m c (Proc.devRef .tc b)))))
    rw [W₁_other m c main_arg0 (by decide) (by decide) (by decide), W₁_other m c main_arg1 (by decide) (by decide) (by decide),
      W₁_other m c main_arg2 (by decide) (by decide) (by decide), W₁_other m c main_arg3 (by decide) (by decide) (by decide),
      W₁_other m c main_v4 (by decide) (by decide) (by decide)] at hsplit
    iintro ⟨⟨Hub, %W, %hW, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Nat.le_zero.mp (hW p hp))
      iexact HO
    isplitr; · iempintro
    iexact Hz
  hin c := by
    rw [show (dats m 0 c).Φ 0 = iprop(emp) from rfl]
    iintro -; iempintro
  hout c := by
    rw [Pipeline.ownSems0_none, scopedRest0_eq]
    iintro -
    isplitr; · iempintro
    isplitr <;> iempintro
  hexit c := by
    iintro ⟨Ha, HO, -, HZ⟩
    ihave H3 := (arrays_tab m c) $$ Ha
    imodintro
    isplitr [HO]
    · isplitl [H3]
      · iexact H3
      iexact HZ
    · unfold Pipeline.Dat.owesAt Pipeline.owesWithin
      icases HO with ⟨%W, %hW, HO⟩; iexists W; isplitr
      · ipureintro
        intro p hp
        rcases hW hp with h | h
        · exact Nat.le_of_eq h
        · obtain ⟨w, s, rfl⟩ := h; exact Nat.le_of_eq rfl
      iexact HO

end Cert.Proof.KernelIdeal

end
-- ==== Proof.IdealLaunch.lean ====
/-
  The launch: the barrier's and the staging cells' ghost state dealt out, @main on the TensorCore (the region that makes
  the table, then the SparseCore call), and the program's run: every argument array unchanged, the result the table's rows
  the indices name, every semaphore at zero.
-/
module

public import proofs.«01_k».proof.Proof.IdealTile
public import proofs.«01_k».proof.Proof.IdealRegion

@[expose] public section

noncomputable section

namespace Cert.Proof.KernelIdeal

open Cert.KernelIdeal Cert.KernelIdeal.Gen

open Idealize.ShloMosaic
open Idealize.ShloMosaic.SparseCore (S V)
open Idealize.ShloMosaic.SparseCore.Cfg (HIx Pay)
open Idealize.ShloMosaic.SparseCore.ProtocolKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- A tile of a device. -/
abbrev Tile : Type := Dev nD × Fin τ.nSC × Fin τ.nSub
/-- Its barrier cell. -/
abbrev tileBar (x : Tile) : GSem nD τ sig := bcell x.1 x.2.1 x.2.2

theorem tileBar_inj : Function.Injective tileBar := fun a b e => by
  obtain ⟨h1, h2⟩ := Prod.mk.inj (Prod.mk.inj e).1; obtain ⟨h3, h4⟩ := Proc.scVector.inj h2
  exact Prod.ext h1 (Prod.ext h3 h4)

/-- The barrier cells, taken at the launch: every tile's. -/
def barCells : Finset (GSem nD τ sig) := (Finset.univ : Finset Tile).image tileBar

/-- The arrival of tile `x` at the cell of tile `j` of its SparseCore. -/
abbrev arrival (y : Tile × Fin (grid1.bound 1)) : GSem nD τ sig × ℕ × ℕ := (bcell y.1.1 y.1.2.1 (y.2.castLE hsub1), 0, y.1.2.2.val)

theorem arrival_inj : Function.Injective arrival := by
  rintro ⟨⟨d, c, i⟩, j⟩ ⟨⟨d', c', i'⟩, j'⟩ e
  obtain ⟨e1, e2⟩ := Prod.mk.inj e
  have hi : i = i' := Fin.ext (Prod.mk.inj e2).2
  have hx := tileBar_inj (a₁ := (d, c, j.castLE hsub1)) (a₂ := (d', c', j'.castLE hsub1)) e1
  obtain ⟨rfl, h⟩ := Prod.mk.inj hx
  obtain ⟨rfl, hj⟩ := Prod.mk.inj h
  have hj' : j = j' := Fin.ext (congrArg Fin.val hj)
  subst hi hj'; rfl

/-- A token for every arrival. -/
def barToks : Finset (GSem nD τ sig × ℕ × ℕ) := (Finset.univ : Finset (Tile × Fin (grid1.bound 1))).image arrival

/-- The ghost state the launch starts from: the handshakes', the barrier cells', the staging cells', no counter yet. -/
def u₀ : UU :=
  (initOf (K (F := F)).hsCells (K (F := F)).hsToks,
    (initOf barCells barToks,
      (initOf (Pipeline.cells (τ := τ) cfgs cellOf_inj) (Pipeline.launchToks (τ := τ) cfgs cellOf_inj), 1)))

/-- Its three parts. -/
theorem own_parts (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ BI.own ((uE (F := F)) ((1, (b, (p, 1))) : UU))) :=
    BI.own_op_elim ((uE (F := F)).op_of_mem (Prod.mk_mem_op (URA.mem_op_one a) (URA.mem_one_op (b, (p, (1 : Counters))))))
  have h2 : (BI.own ((uE (F := F)) ((1, (b, (p, 1))) : UU)) : sProp 𝕄) ⊢ iprop(BI.own (EB b) ∗ BI.own (EP p)) :=
    BI.own_op_elim ((uE (F := F)).op_of_mem (Prod.mk_mem_op (URA.mem_op_one (1 : UH))
      (Prod.mk_mem_op (URA.mem_op_one b) (URA.mem_one_op (p, (1 : Counters))))))
  exact h1.trans (sep_mono_right h2)

/-- Each tile's barrier semaphore is at zero at the launch. -/
theorem bar_sems : ((K (F := F)).freeOn (· ∈ barCells) : sProp 𝕄) ⊢ bigSep barCells fun g => semVal g 0 := by
  unfold SparseCore.Cfg.freeOn barCells
  rw [SparseCore.bigSep_image_of_injOn (fun a _ b _ e => tileBar_inj e)]
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tileBar (Finset.mem_univ _)⟩)

/-- The barrier cells' invariants. -/
theorem bar_invs : iprop((bigSep barCells fun g => (semVal g 0 : sProp 𝕄)) ∗ bigSep barCells fun g => roundState EB (bRd m) g 0)
    ⊢ |={Set.univ}=> iprop(∃ κ : GSem nD τ sig → ℕ, bigSep barCells fun g => cellInv EB (bRd m) (κ g) g) := by
  refine (Rounds.bodies_intro EB (bRd m) barCells).trans ((inv_alloc_family barCells (Rounds.body EB (bRd m)) ∅ (E := Set.univ)).trans ?_)
  iintro H
  imod H with ⟨%κ, -, Hinv⟩
  imodintro; iexists κ; iexact Hinv

/-- The tiles' debts, counted at the cells they are owed to: sixteen units at each. -/
theorem bar_creds : ((P m).oxCred : sProp 𝕄) ⊢ bigSep Finset.univ fun x : Tile => cred (tallyAt (tileBar x) (some 0) (grid1.bound 1)) := by
  have hox : ∀ (d : Dev nD) (c : Fin τ.nSC) (i : Fin τ.nSub), (P m).oxFrom 0 (V d c i) = oxV d c := fun d c i => by
    rw [show (0 : ℕ) = (0 : Fin 1).val from rfl, (P m).oxFrom_step, (P m).oxFrom_end _ (n := (0 : Fin 1).val + 1) le_rfl, add_zero]
    rfl
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_univ_prod, bigSep_univ_prod (fun x : Tile => (cred (tallyAt (tileBar x) (some 0) (grid1.bound 1)) : sProp 𝕄))]
  refine bigSep_mono fun d _ => ?_
  rw [bigSep_univ_prod, bigSep_univ_prod (fun ci : Fin τ.nSC × Fin τ.nSub => (cred (tallyAt (tileBar (d, ci)) (some 0) (grid1.bound 1)) : sProp 𝕄))]
  refine bigSep_mono fun c _ => ?_
  simp only [hox]
  unfold oxV
  rw [SparseCore.Cfg.cred_finsum, bigSep_univ_comm]
  refine bigSep_mono fun j _ => ?_
  rw [← SparseCore.Cfg.cred_finsum, sum_tallyAt_const]
  exact BI.Entails.refl _

/-- The arrivals' tokens, tile by tile. -/
theorem bar_toks : (bigSep barToks fun x => (dutyTok EB x.1 x.2.1 x.2.2 : sProp 𝕄))
    = bigSep Finset.univ fun x : Tile => bigSep Finset.univ fun j : Fin (grid1.bound 1) => dutyTok EB (bcell x.1 x.2.1 (j.castLE hsub1)) 0 x.2.2.val := by
  unfold barToks
  rw [SparseCore.bigSep_image_of_injOn (fun a _ b _ e => arrival_inj e), bigSep_univ_prod]

theorem bar_each (Φ : GSem nD τ sig → sProp 𝕄) : bigSep barCells Φ = bigSep Finset.univ fun x : Tile => Φ (tileBar x) := by
  unfold barCells; exact SparseCore.bigSep_image_of_injOn (fun a _ b _ e => tileBar_inj e) Φ

/-- What all tiles are handed alike. -/
abbrev barKnown : sProp 𝕄 :=
  iprop((∃ κ : GSem nD τ sig → ℕ, bigSep Finset.univ fun x : Tile => cellInv EB (bRd m) (κ (tileBar x)) (tileBar x))
    ∗ bigSep Finset.univ fun x : Tile => reached EB (tileBar x) 0)
/-- What tile `x` is handed of its own. -/
abbrev barOwn (x : Tile) : sProp 𝕄 :=
  iprop((bigSep Finset.univ fun j : Fin (grid1.bound 1) => dutyTok EB (bcell x.1 x.2.1 (j.castLE hsub1)) 0 x.2.2.val)
    ∗ atPos EB (tileBar x) 0 ∅ 0 ∗ cred (tallyAt (tileBar x) (some 0) (grid1.bound 1)))

theorem bar_kit (x : Tile) : iprop(barKnown m ∗ barOwn (F := F) x) ⊢ (bkit m x.1 x.2.1 x.2.2 : sProp 𝕄) := by
  obtain ⟨d, c, i⟩ := x
  have hcell (κ : GSem nD τ sig → ℕ) : (bigSep Finset.univ fun x : Tile => cellInv EB (bRd m) (κ (tileBar x)) (tileBar x))
      ⊢ bigSep Finset.univ fun j : Fin (grid1.bound 1) => (cellInv EB (bRd m) (κ (bcell d c (j.castLE hsub1))) (bcell d c (j.castLE hsub1)) : sProp 𝕄) :=
    bigSep_intro_persistent fun j _ => bigSep_elim (Φ := fun x : Tile => (cellInv EB (bRd m) (κ (tileBar x)) (tileBar x) : sProp 𝕄))
      (i := (d, c, j.castLE hsub1)) (Finset.mem_univ _)
  have hreach : (bigSep Finset.univ fun x : Tile => reached EB (tileBar x) 0)
      ⊢ bigSep Finset.univ fun j : Fin (grid1.bound 1) => (reached EB (bcell d c (j.castLE hsub1)) 0 : sProp 𝕄) :=
    bigSep_intro_persistent fun j _ => bigSep_elim (Φ := fun x : Tile => (reached EB (tileBar x) 0 : sProp 𝕄))
      (i := (d, c, j.castLE hsub1)) (Finset.mem_univ _)
  unfold bkit
  iintro ⟨⟨⟨%κ, Hinv⟩, Hr⟩, Htok, Hat, Hcred⟩
  isplitl [Hinv]; · iexists κ; iapply (hcell κ); iexact Hinv
  isplitl [Htok]; · iexact Htok
  isplitl [Hr]; · iapply hreach; iexact Hr
  isplitl [Hat] <;> iassumption

theorem x_T (d : Dev nD) : (bigSep Finset.univ fun q : Fin 1 => (P m).x q (SparseCore.T d)) = iprop(emp) := bigSep_univ_of_subsingleton (0 : Fin 1)
theorem x_S (d : Dev nD) (c : Fin τ.nSC) : (bigSep Finset.univ fun q : Fin 1 => (P m).x q (S d c)) = iprop(emp) := bigSep_univ_of_subsingleton (0 : Fin 1)
theorem x_V (d : Dev nD) (c : Fin τ.nSC) (i : Fin τ.nSub) : (bigSep Finset.univ fun q : Fin 1 => (P m).x q (V d c i)) = bkit m d c i :=
  bigSep_univ_of_subsingleton (0 : Fin 1)

/-- Every thread what its kernel starts from: each tile its kit, no other thread anything. -/
theorem bar_deal : iprop(barKnown m ∗ bigSep Finset.univ fun x : Tile => barOwn (F := F) x)
    ⊢ (bigSep Finset.univ fun thr : Thread nD τ => bigSep Finset.univ fun q : Fin 1 => (P m).x q thr : sProp 𝕄) := by
  rw [SparseCore.Cfg.bigSep_threads (fun thr : Thread nD τ => bigSep Finset.univ fun q : Fin 1 => (P m).x q thr)]
  simp only [x_T, x_S, x_V]
  iintro H
  isplitr; · iapply (Entails.of_eq (BI.bigSep_emp_const (M := 𝕄) (Finset.univ : Finset (Dev nD))).symm); iempintro
  isplitr; · iapply (Entails.of_eq (BI.bigSep_emp_const (M := 𝕄) (Finset.univ : Finset (Dev nD × Fin τ.nSC))).symm); iempintro
  iapply (Transfers.bigSep_mono_pers Finset.univ (barKnown m) (fun x : Tile => barOwn (F := F) x) (fun x : Tile => bkit m x.1 x.2.1 x.2.2) fun x _ => bar_kit m x)
  iexact H

/-- What @main on device `d` starts from beyond its buffers: the staging cells' ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem stage_ghost : BI.own (EP (initOf (Pipeline.cells (τ := τ) cfgs cellOf_inj) (Pipeline.launchToks (τ := τ) cfgs cellOf_inj)))
    ⊢ (iprop(|==> bigSep Finset.univ fun d : Dev nD => G (F := F) d) : sProp 𝕄) := by
  iintro H
  imod (Pipeline.fund_ghost (Pipeline.pin (pcfgs (F := F)) adm) EP cellOf_inj) $$ H with ⟨Hg, Ht⟩
  imodintro
  rw [bigSep_sep']
  isplitl [Hg]
  · iapply (SparseCore.ent (bigSep_mono fun c _ => BI.bigSep_elim (Φ := fun p : Fin 1 => Pipeline.cellsGhost (Pipeline.pin (pcfgs (F := F)) adm) EP p c) (Finset.mem_univ 0)))
    iexact Hg
  · iapply (SparseCore.ent (bigSep_mono fun c _ => BI.bigSep_elim (Φ := fun p : Fin 1 => (Pipeline.toksInit (Pipeline.pin (pcfgs (F := F)) adm) EP p c : sProp 𝕄)) (Finset.mem_univ 0)))
    iexact Ht

theorem hu₀ : iprop(ownU (u₀ (F := F)) ∗ (P m).oxCred ∗ (K (F := F)).freeOn (· ∈ barCells))
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (own_parts _ _ _) $$ Hu
  icases H with ⟨HH, HB, HP⟩
  imod (Rounds.fund EB (bRd m) barCells barToks) $$ HB with ⟨Hst, #Hr, Hat, Htok⟩
  imod (stage_ghost (F := F)) $$ HP with HG
  ihave Hsems := (bar_sems (F := F)) $$ Hfree
  imod (bar_invs m) $$ [Hsems Hst] with ⟨%κ, #Hinv⟩
  · isplitl [Hsems] <;> iassumption
  ihave Hcred' := (bar_creds m) $$ Hcred
  ihave Hinv' := (Entails.of_eq (bar_each (F := F) fun g => cellInv EB (bRd m) (κ g) g)) $$ Hinv
  ihave Hr' := (Entails.of_eq (bar_each (F := F) fun g => reached EB g 0)) $$ Hr
  ihave Hat' := (Entails.of_eq (bar_each (F := F) fun g => atPos EB g 0 ∅ 0)) $$ Hat
  ihave Htok' := (Entails.of_eq (bar_toks (F := F))) $$ Htok
  imodintro
  isplitl [HH]; · iexact HH
  isplitl [HG]; · iexact HG
  iapply (bar_deal m)
  isplitl [Hinv' Hr']
  · isplitl [Hinv']; · iexists κ; iexact Hinv'
    iexact Hr'
  rw [bigSep_sep', bigSep_sep']
  isplitl [Htok']; · iexact Htok'
  isplitl [Hat'] <;> iassumption

/-! ## Dealing the arrays to the tiles, and taking them back -/

/-- An array held whole is held as the thirty-two tiles' pieces. -/
theorem pts_tiles {ℓ : Loc nD τ sig} (f : Buf (Elt F) ℓ) :
    (ℓ ↦{fullShare} f : sProp 𝕄) = bigSep Finset.univ fun c : Fin 2 => bigSep Finset.univ fun i : Fin 16 => ℓ ↦{tilePiece (c, i)} f := by
  rw [pointsTo_piecesOf Finset.univ f (o := 2) (by decide) fullShare]
  exact bigSep_congr fun c _ => pointsTo_piecesOf Finset.univ f (o := 16) (by decide) _

/-- The result's array is its rows, tile by tile. -/
theorem pts_outRows (d : Dev nD) (f : Buf (Elt F) (outLoc d)) :
    (outLoc d ↦{fullShare} f : sProp 𝕄) = bigSep Finset.univ fun c : Fin 2 => bigSep Finset.univ fun i : Fin 16 => tileOut d (c, i) f := by
  rw [← bigSep_univ_prod (fun ci : Fin 2 × Fin 16 => tileOut (F := F) d ci f),
    ← pointsTo_biUnion Finset.univ (ℓ := outLoc d) outRows outRows_disjoint, outRows_cover]; try rfl

theorem tiles_in (d : Dev nD) : (bigSep Finset.univ fun c : Fin 2 => bigSep Finset.univ fun i : Fin 16 => tileIn m d (c, i))
    = iprop(((tabLoc d ↦{fullShare} tab m d) ∗ ixLoc d ↦{fullShare} m (ixLoc d)) ∗ outLoc d ↦{fullShare} m (outLoc d)) := by
  simp only [bigSep_sep']
  rw [pts_tiles (tab m d), pts_tiles (m (ixLoc d)), pts_outRows]

/-- Every tile's barrier semaphore, back at zero. -/
abbrev barsZero (d : Dev nD) : sProp 𝕄 :=
  bigSep Finset.univ fun c : Fin 2 => bigSep Finset.univ fun i : Fin 16 => barZero d (coreOf (F := F) c) (subOf (F := F) i)

theorem tiles_end (d : Dev nD) : (bigSep Finset.univ fun c : Fin 2 => bigSep Finset.univ fun i : Fin 16 => tileEnd m d (c, i))
    = iprop((((tabLoc d ↦{fullShare} tab m d) ∗ ixLoc d ↦{fullShare} m (ixLoc d)) ∗ outLoc d ↦{fullShare} outG m d) ∗ barsZero d) := by
  simp only [bigSep_sep']
  rw [pts_tiles (tab m d), pts_tiles (m (ixLoc d)), pts_outRows]

/-! ## @main on the TensorCore -/

/-- What @main ends with: the arguments as launched, the result looked up, the barrier semaphores at zero. -/
abbrev FIN (d : Dev nD) : sProp 𝕄 :=
  iprop((ixLoc d ↦{fullShare} m (ixLoc d)) ∗ (embLoc d ↦{fullShare} m (embLoc d)) ∗ (wLoc d ↦{fullShare} m (wLoc d))
    ∗ (bLoc d ↦{fullShare} m (bLoc d)) ∗ (outLoc d ↦{fullShare} outG m d) ∗ barsZero d)

theorem hostOps_sub : ∀ op ∈ (hostOps : List (HloOp τ sig (Elt F))), op.bufs ⊆ Pipeline.ucRefs τ sig := by
  intro op hop
  refine Pipeline.sub_ucRefs op ?_
  simp only [hostOps, List.mem_cons, List.mem_nil_iff, or_false] at hop
  rcases hop with rfl | rfl | rfl
  · exact StableHlo.unary_bufs_sub _ _ _ _ _
  · exact StableHlo.unary_bufs_sub _ _ _ _ _
  · exact StableHlo.reshape_bufs_sub _ _ _ _ _ _

theorem hostOps_fresh : ∀ op ∈ (hostOps : List (HloOp τ sig (Elt F))), op.fresh = ∅ := by
  intro op hop
  simp only [hostOps, List.mem_cons, List.mem_nil_iff, or_false] at hop
  rcases hop with rfl | rfl | rfl <;> rfl

/-- The region, as @main runs it: from the buffers the host operations left and the starts owed, to the table. -/
theorem region_run (d : Dev nD) (Q : PUnit → sProp 𝕄) :
    iprop(boundary (SparseCore.T d) ∗ StableHlo.held (SparseCore.T d) (Pipeline.ucRefs τ sig) (W₁ m d) ∗ tcOwes d
      ∗ levAts (K (F := F)).L (K (F := F)).lev ∗ G d ∗ (iprop(boundary (SparseCore.T d) ∗ fused m d ∗ tcOwes d) -∗ Q ⟨⟩))
    ⊢ wp frame (wpE ((K (F := F)).defs (D (F := F))) 𝒱 (SparseCore.T d) none) Set.univ
        (SparseCore.liftProg (.op (.customCall (Pipeline.entry 0) ()) .ret)) Q := by
  iintro ⟨Hb, Hh, Ho, Hlev, ⟨Hg, Ht⟩, Hk⟩
  iapply ((K (F := F)).wp_liftProg (D (F := F)) 𝒱 (SparseCore.T d) Set.univ none _ _)
  iapply (Pipeline.RegionSeg.wp (pcfgs (F := F)) adm (dats m) none cellOf_inj EP defs₀ 𝒱₀ (K (F := F)).L (K (F := F)).lev (reg m) d none
    (fun _ h => nomatch h) .ret Q)
  isplitl [Hk]
  · iintro ⟨Hb, Hpost⟩
    ihave Hpost' := (Entails.of_eq (show (reg m).post d = iprop(fused m d ∗ tcOwes d) from rfl)) $$ Hpost
    icases Hpost' with ⟨Hf, Ho⟩
    rw [wp_ret]; imodintro
    iapply Hk
    isplitl [Hb]; · iexact Hb
    isplitl [Hf] <;> iassumption
  isplitl [Hb]; · iexact Hb
  isplitl [Hh Ho]
  · iapply (Entails.of_eq (show iprop(StableHlo.held (SparseCore.T d) (Pipeline.ucRefs τ sig) (W₁ m d) ∗ tcOwes d) = (reg m).pre d from rfl))
    isplitl [Hh] <;> iassumption
  isplitl [Hlev]; · iexact Hlev
  isplitl [Hg] <;> iassumption

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show unscopedBufs d (fun b => m ((SparseCore.T d).loc b)) = StableHlo.held (SparseCore.T d) (Pipeline.ucRefs τ sig) (W₀ m d)
    from Pipeline.unscopedBufs_held d (W₀ m d)]
  iintro ⟨#Hctx, Hst, ⟨Hb, Hub, Hts, -⟩, HG⟩
  iapply (StableHlo.wp_seq 𝒱 none Set.univ d (Pipeline.ucRefs τ sig) _ hostOps hostOps_sub hostOps_fresh (W₀ m d)) $$ [Hb Hub]
  · isplitl [Hb] <;> iassumption
  iintro ⟨Hb, Hub⟩
  rw [wp_bind]
  obtain ⟨R, hR⟩ : ∃ R : sProp 𝕄, (K (F := F)).tcSt EH d 0 = iprop(tcOwes d ∗ R) := ⟨_, rfl⟩
  ihave Hst' := (Entails.of_eq hR) $$ Hst
  icases Hst' with ⟨Ho, Hst⟩
  ihave Hlev := ((K (F := F)).ctx_levAts κ) $$ Hctx
  iapply (region_run m d _)
  isplitl [Hb]; · iexact Hb
  isplitl [Hub]; · iexact Hub
  isplitl [Ho]; · iexact Ho
  isplitl [Hlev]; · iexact Hlev
  isplitl [HG]; · iexact HG
  iintro ⟨Hb, ⟨Htab, Hix, Hemb, Hw, Hbi, Hout⟩, Ho⟩
  iapply ((K (F := F)).wp_run (D (F := F)) 𝒱 (EH := EH) (P := P m) κ d 0) $$ [Hst Ho Htab Hix Hout Hemb Hw Hbi Hb Hts]
  isplitr; · iexact Hctx
  isplitl [Hst Ho]
  · iapply (Entails.of_eq (show iprop(tcOwes d ∗ R) = (K (F := F)).tcSt EH d ((0 : Fin 1) : ℕ) from hR.symm))
    isplitl [Ho] <;> iassumption
  isplitl [Htab Hix Hout]
  · iapply (Entails.of_eq (tiles_in m d).symm)
    isplitr [Hout]
    · isplitl [Htab] <;> iassumption
    iexact Hout
  iintro ⟨Hst, Hdn⟩
  ihave Hdn' := (show (bigSep Finset.univ fun c : Fin ((K (F := F)).nCore 0) => (P m).dn 0 d c) ⊢
    iprop((((tabLoc d ↦{fullShare} tab m d) ∗ ixLoc d ↦{fullShare} m (ixLoc d)) ∗ outLoc d ↦{fullShare} outG m d) ∗ barsZero d)
    from Entails.of_eq (tiles_end m d)) $$ Hdn
  icases Hdn' with ⟨⟨⟨-, Hix⟩, Hout⟩, Hbars⟩
  isplitl [Hst]; · iexact Hst
  isplitr [Hb Hts]
  · isplitl [Hix]; · iexact Hix
    isplitl [Hemb]; · iexact Hemb
    isplitl [Hw]; · iexact Hw
    isplitl [Hbi]; · iexact Hbi
    isplitl [Hout] <;> iassumption
  isplitl [Hb] <;> iassumption

/-! ## The final memory -/

/-- What the end says of device `d`'s memory. -/
def fq (d : Dev nD) (s' : Phys nD τ sig (Elt F)) : Prop :=
  s'.mem.mem (ixLoc d) = m (ixLoc d) ∧ s'.mem.mem (embLoc d) = m (embLoc d) ∧ s'.mem.mem (wLoc d) = m (wLoc d)
    ∧ s'.mem.mem (bLoc d) = m (bLoc d) ∧ s'.mem.mem (outLoc d) = outG m d
    ∧ ∀ (c : Fin 2) (i : Fin 16), s'.mem.sem (bcell d (coreOf (F := F) c) (subOf (F := F) i)) = 0

theorem read_pts {ℓ : Loc nD τ sig} (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨((sep_mono_left sep_elim_left).trans (read_pts _ s')) x hx,
    ((sep_mono_left (sep_elim_right.trans sep_elim_left)).trans (read_pts _ s')) x hx,
    ((sep_mono_left (sep_elim_right.trans (sep_elim_right.trans sep_elim_left))).trans (read_pts _ s')) x hx,
    ((sep_mono_left (sep_elim_right.trans (sep_elim_right.trans (sep_elim_right.trans sep_elim_left)))).trans (read_pts _ s')) x hx,
    ((sep_mono_left (sep_elim_right.trans (sep_elim_right.trans (sep_elim_right.trans (sep_elim_right.trans sep_elim_left))))).trans (read_pts _ s')) x hx,
    fun c i => ((sep_mono_left (sep_elim_right.trans (sep_elim_right.trans (sep_elim_right.trans (sep_elim_right.trans (sep_elim_right.trans
      ((SparseCore.ent (bigSep_elim (Finset.mem_univ c))).trans (SparseCore.ent (bigSep_elim (Finset.mem_univ i)))))))))).trans
        (SparseCore.Cfg.semVal_zero_read _ s')) x hx⟩

/-- The barrier cells end at zero. -/
theorem hA (s' : Phys nD τ sig (Elt F)) (h : ∀ d, fq m d s') (g : GSem nD τ sig) (hg : g ∈ barCells) : s'.mem.sem g = 0 := by
  obtain ⟨⟨d, c, i⟩, -, rfl⟩ := Finset.mem_image.mp hg
  exact (h d).2.2.2.2.2 ⟨c.val, c.isLt⟩ ⟨i.val, i.isLt⟩

/-- The run: each device's four arguments as launched, its result the table's rows the indices name, every semaphore zero. -/
def QC : PUnit × MemSt nD τ sig (Elt F) → Prop := fun r =>
  (∀ c : Dev nD, r.2.mem (ixLoc c) = m (ixLoc c) ∧ r.2.mem (embLoc c) = m (embLoc c) ∧ r.2.mem (wLoc c) = m (wLoc c)
    ∧ r.2.mem (bLoc c) = m (bLoc c) ∧ r.2.mem (outLoc c) = outG m c) ∧ r.2.sem = fun _ => 0

theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hr facts)
    (fun q _ => match q with | 0 => vecSplit m)
    m ρ main (fun d => G d) (FIN m) (u₀ (F := F)) (hu₀ m) (hmain m ρ) (fq m) (hfin m) (QC m)
    (fun _ h hz => ⟨fun c => ⟨(h c).1, (h c).2.1, (h c).2.2.1, (h c).2.2.2.1, (h c).2.2.2.2.1⟩, hz⟩)

end Cert.Proof.KernelIdeal

end
-- ==== Proof.Range.lean ====
/-
  What the claims' precondition says of the indices: a lookup whose `0 ≤ i < 1000` predicate prints 1 has every index, read
  as a natural number, below 1000.
-/
module

public import proofs.«01_k».proof.Proof.Gen.Pre_in_range
public import Idealize.ShloMosaic.Lib.ReduceAll
public import Idealize.ShloMosaic.Lib.StableHlo.Predicate

@[expose] public section

noncomputable section

namespace Cert.Proof.Range

open Cert.Pre_in_range Cert.Pre_in_range.Gen
open Idealize.ShloMosaic

variable {F : FTy → Type} [FloatOps F]

/-- A 32-bit word that compares, signed, at least 0 and below 1000 is a natural number below 1000. -/
theorem toNat_lt_of_cmpi (v : BitVec 32) (h0 : IntOp.cmpi .sge v 0#32 = 1#1) (h1 : IntOp.cmpi .slt v 1000#32 = 1#1) :
    v.toNat < 1000 := by
  rw [IntOp.cmpi_sge, show (0#32).toInt = 0 from by decide] at h0
  rw [IntOp.cmpi_slt, show (1000#32).toInt = 1000 from by decide] at h1
  rw [BitVec.toInt_eq_toNat_cond] at h0 h1
  split at h0 <;> omega

/-- The printed predicate is 1 only when every index lies below 1000. -/
theorem toNat_lt_of_pre (t : IVec S16384 32) (e : FVec F S1000x64 .f32) (w : FVec F S128x64 .f32) (b : FVec F S128 .f32)
    (h : Cert.Pre_in_range.fn (F := F) t e w b = fun _ => 1#1) (x : S16384.Idx) : (t x).toNat < 1000 := by
  haveI : Subsingleton S_.Idx := ⟨fun p q => funext fun a => a.elim0⟩
  unfold Cert.Pre_in_range.fn at h
  have h3 : IntOp.andi (IntOp.cmpi .sge (t x) 0#32) (IntOp.cmpi .slt (t x) 1000#32) = 1#1 :=
    Host.reduce_andi_all _ _ _ _ _ (congrFun h (fun a => a.elim0)) x
  have h4 := IntOp.andi_eq_one.1 h3
  exact toNat_lt_of_cmpi _ h4.1 h4.2

end Cert.Proof.Range

end
-- ==== Proof.RefValue.lean ====
/-
  The reference's result at an index, with exact arithmetic. A lookup with in-range indices reads the row the index names: the
  wrap of negative indices keeps it, the bounds mask is 1 everywhere, and the gather's clamp does nothing. The result at
  (p, c) is then the dot product of that row's silu with row c of the projection, plus the bias's entry c.
-/
module

public import proofs.«01_k».proof.Proof.Gen.ReferenceIdeal
public import Idealize.ShloMosaic.Lib.ReduceAll
public import Idealize.ShloMosaic.Lib.IdealHost
public import Idealize.ShloMosaic.Lib.StackMember
public import Idealize.ShloMosaic.Lib.Pipeline.Value
public import Idealize.ShloMosaic.Lib.Pointwise.ElementwiseCore

@[expose] public section

noncomputable section

namespace Cert.Proof.RefValue

open Cert.ReferenceIdeal Cert.ReferenceIdeal.Gen
open Idealize.ShloMosaic
open Idealize.ShloMosaic.ValueIdx (ix1 ix2)

variable {α : Type}

/-! ## The stages of the reference's value -/

/-- The row numbers the gather starts at: a negative index counted from the table's end. -/
def starts (t : IVec S16384 32) : IVec S16384x1 32 :=
  broadcastInDim S16384x1 ![0] bcast_S16384_S16384x1_0
    (select (cmpi .slt t (broadcastInDim S16384 ![] bcast_S_S16384 (constantI S_ 32 0#32)))
      (addi t (broadcastInDim S16384 ![] bcast_S_S16384 (constantI S_ 32 1000#32))) t)

/-- Which lookups start inside the table. -/
def inside (t : IVec S16384 32) : IVec S16384 1 :=
  Host.reduce IntOp.andi
    (andi (cmpi .sge (starts t) (broadcastInDim S16384x1 ![] bcast_S_S16384x1 (constantI S_ 32 0#32)))
      (cmpi .sle (starts t) (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- The rows looked up, a lookup outside the table filled with the not-a-number word. -/
def looked (t : IVec S16384 32) (e : FVec Ideal S1000x64 .f32) : FVec Ideal S16384x64 .f32 :=
  select (broadcastInDim S16384x64 ![0] bcast_S16384_S16384x64_0 (inside t))
    (Host.gather gather_S1000x64_S16384x1_S16384x64_1_0_n_n_0_1_164 e (starts t))
    (broadcastInDim S16384x64 ![] bcast_S_S16384x64 (constant S_ .f32 0x7FC00000#32))

/-- `x · 1/(1 + exp(-x))`, element by element. -/
def siluV (x : FVec Ideal S16384x64 .f32) : FVec Ideal S16384x64 .f32 :=
  mulf x (Host.divf (broadcastInDim S16384x64 ![] bcast_S_S16384x64 (constant S_ .f32 0x3F800000#32))
    (addf (broadcastInDim S16384x64 ![] bcast_S_S16384x64 (constant S_ .f32 0x3F800000#32)) (Host.exp (Host.negf x))))

/-- The reference's result. -/
def refV (t : IVec S16384 32) (e : FVec Ideal S1000x64 .f32) (w : FVec Ideal S128x64 .f32) (b : FVec Ideal S128 .f32) :
    FVec Ideal S16384x128 .f32 :=
  addf (Host.dotGeneral dot_S16384x64_S64x128_S16384x128_1_0_0_1_n_n none (siluV (looked t e))
      (transpose S64x128 [1, 0] w transposes_S128x64_S64x128_1_0))
    (broadcastInDim S16384x128 ![0, 1] bcast_S1x128_S16384x128_0_1 (broadcastInDim S1x128 ![1] bcast_S128_S1x128_1 b))

/-! ## The gather -/

/-- A gather of whole rows at row numbers inside the table reads the row named: at (p, k) it is the table at
    (start p, k). -/
theorem gather_row (x : S1000x64.Idx → α) (s : IVec S16384x1 32) (p : Fin 16384) (k : Fin 64) (r : Fin 1000)
    (hr : (s (ix2 p 0)).toInt = (r.val : Int)) :
    Host.gather gather_S1000x64_S16384x1_S16384x64_1_0_n_n_0_1_164 x s (ix2 p k) = x (ix2 r k) := by
  unfold Host.gather
  refine congrArg x (funext fun a => Fin.ext ?_)
  let D := gather_S1000x64_S16384x1_S16384x64_1_0_n_n_0_1_164
  show D.start (ix2 p k) s a + D.batchCoord (ix2 p k) a + D.offCoord (ix2 p k) a = _
  have ha : a = 0 ∨ a = 1 := by
    match a with
    | ⟨0, _⟩ => exact Or.inl rfl
    | ⟨1, _⟩ => exact Or.inr rfl
  rcases ha with rfl | rfl
  · have hm : (0 : Fin 2) ∈ D.startIndexMap := List.mem_singleton.mpr rfl
    rw [GatherDims.batchCoord_eq_zero D _ _ (fun h => by exact absurd h List.not_mem_nil),
      GatherDims.offCoord_eq_zero D _ _ (fun h => ((GatherDims.mem_sKept D _).mp h).1 (List.mem_singleton.mpr rfl))]
    unfold GatherDims.start
    rw [dif_pos hm]
    have hs : D.siIdx (ix2 p k) ⟨D.startIndexMap.idxOf (0 : Fin 2), List.idxOf_lt_length_iff.2 hm⟩ = ix2 p 0 := by
      funext b
      refine Fin.ext ?_
      match b with
      | ⟨0, _⟩ => rfl
      | ⟨1, _⟩ => rfl
    have hs' := congrArg (fun i => min (s i).toInt.toNat (S1000x64.size 0 - D.sliceSizes 0)) hs
    refine (congrArg (· + 0 + 0) hs').trans ?_
    show min (s (ix2 p 0)).toInt.toNat (1000 - 1) + 0 + 0 = r.val
    rw [hr]
    have := r.isLt
    omega
  · have hn : (1 : Fin 2) ∉ D.startIndexMap := by
      intro h
      exact absurd (List.mem_singleton.mp h) (by decide)
    rw [GatherDims.batchCoord_eq_zero D _ _ (fun h => by exact absurd h List.not_mem_nil)]
    unfold GatherDims.start
    rw [dif_neg hn]
    unfold GatherDims.offCoord
    rw [dif_pos ((GatherDims.mem_sKept D _).mpr ⟨fun h => absurd (List.mem_singleton.mp h) (by decide),
      List.not_mem_nil⟩)]
    show 0 + 0 + k.val = k.val
    omega

/-! ## In-range indices -/

/-- A word below 1000 reads signed as itself. -/
theorem toInt_of_lt (v : BitVec 32) (h : v.toNat < 1000) : v.toInt = (v.toNat : Int) := by
  rw [BitVec.toInt_eq_toNat_cond, if_pos (by omega)]

/-- An in-range index is not negative, so the wrap keeps it. -/
theorem starts_apply (t : IVec S16384 32) (h : ∀ x, (t x).toNat < 1000) (p : Fin 16384) (u : Fin 1) :
    starts t (ix2 p u) = t (ix1 p) := by
  unfold starts
  rw [broadcastInDim_apply _ _ _ (ix2 p u) (ix1 p) (fun a => by match a with | ⟨0, _⟩ => rfl)]
  have hv := h (ix1 p)
  have hc : IntOp.cmpi .slt (t (ix1 p)) 0#32 = 0#1 := by
    refine ValueIdx.eq_zero_of_ne_one fun hc => ?_
    rw [IntOp.cmpi_slt, toInt_of_lt _ hv, show (0#32).toInt = 0 from by decide] at hc
    omega
  rw [ValueIdx.select_apply]
  refine (congrArg (fun c => Scalar.select c _ (t (ix1 p))) (show _ = 0#1 from hc)).trans ?_
  rfl

/-- Every lookup starts inside the table. -/
theorem inside_apply (t : IVec S16384 32) (h : ∀ x, (t x).toNat < 1000) (j : S16384.Idx) : inside t j = 1#1 := by
  unfold inside
  refine Host.reduce_andi_one _ _ _ _ _ rfl fun i => ?_
  obtain ⟨p, u, rfl⟩ : ∃ p u, i = ix2 p u := ⟨_, _, ValueIdx.eq_ix2 i⟩
  have hv := h (ix1 p)
  have hi := toInt_of_lt _ hv
  show IntOp.andi (IntOp.cmpi .sge (starts t (ix2 p u)) 0#32) (IntOp.cmpi .sle (starts t (ix2 p u)) 999#32) = 1#1
  rw [starts_apply t h, IntOp.andi_eq_one]
  rw [IntOp.cmpi_sge, IntOp.cmpi_sle, hi, show (0#32).toInt = 0 from by decide, show (999#32).toInt = 999 from by decide]
  omega

/-- The lookup reads the row its index names. -/
theorem looked_apply (t : IVec S16384 32) (e : FVec Ideal S1000x64 .f32) (h : ∀ x, (t x).toNat < 1000) (p : Fin 16384)
    (k : Fin 64) : looked t e (ix2 p k) = e (ix2 ⟨(t (ix1 p)).toNat, h _⟩ k) := by
  have hm : broadcastInDim S16384x64 ![0] bcast_S16384_S16384x64_0 (inside t) (ix2 p k) = 1#1 := by
    unfold broadcastInDim
    exact inside_apply t h _
  unfold looked
  rw [ValueIdx.select_apply, hm, ValueIdx.select_one]
  refine gather_row e _ p k _ ?_
  rw [starts_apply t h, toInt_of_lt _ (h _)]

/-! ## The result -/

/-- One element's silu. -/
def silu (x : EReal) : EReal := x * FloatOps.logistic (F := Ideal) (φ := .f32) x

/-- The reference's spelled-out silu is the one operation's. -/
theorem siluV_apply (x : FVec Ideal S16384x64 .f32) (j : S16384x64.Idx) : siluV x j = silu (x j) := by
  have h1 : (broadcastInDim S16384x64 ![] bcast_S_S16384x64 (constant (F := Ideal) S_ .f32 0x3F800000#32)) j = (1 : EReal) :=
    Ideal.ofBits_one_f32
  show x j * Ideal.div _ (_ + _) = _
  rw [h1]
  rfl

/-- The reference's result at (p, c): Σ_k silu(e[t[p], k]) · w[c, k] + b[c]. -/
theorem refV_apply (t : IVec S16384 32) (e : FVec Ideal S1000x64 .f32) (w : FVec Ideal S128x64 .f32) (b : FVec Ideal S128 .f32)
    (h : ∀ x, (t x).toNat < 1000) (p : Fin 16384) (c : Fin 128) :
    refV t e w b (ix2 p c)
      = (∑ k : Fin 64, silu (e (ix2 ⟨(t (ix1 p)).toNat, h _⟩ k)) * w (ix2 c k)) + b (ix1 c) := by
  have hb : broadcastInDim S16384x128 ![0, 1] bcast_S1x128_S16384x128_0_1 (broadcastInDim S1x128 ![1] bcast_S128_S1x128_1 b)
      (ix2 p c) = b (ix1 c) := by
    rw [broadcastInDim_apply _ _ _ (ix2 p c) (ix2 (0 : Fin 1) c) (fun a => by
      match a with
      | ⟨0, _⟩ => rfl
      | ⟨1, _⟩ => rfl)]
    exact broadcastInDim_apply _ _ _ (ix2 (0 : Fin 1) c) (ix1 c) (fun a => by match a with | ⟨0, _⟩ => rfl)
  have hd := StackMember.dotGeneral_plain_apply (m := 16384) (k := 64) (n := 128) none (siluV (looked t e))
    (transpose S64x128 [1, 0] w transposes_S128x64_S64x128_1_0) p c
  show Host.dotGeneral dot_S16384x64_S64x128_S16384x128_1_0_0_1_n_n none (siluV (looked t e)) _ (ix2 p c) + _ = _
  rw [hb]
  refine congrArg (· + b (ix1 c)) (Eq.trans ?_ (hd.trans (Finset.sum_congr rfl fun k _ => ?_)))
  · rfl
  · rw [siluV_apply, looked_apply t e h]
    refine congrArg (_ * ·) (transpose_apply _ w _ (ix2 k c) (ix2 c k) fun a => ?_)
    match a with
    | ⟨0, _⟩ => rfl
    | ⟨1, _⟩ => rfl

end Cert.Proof.RefValue

end
-- ==== Proof.Equation.lean ====
/-
  The equation, with exact arithmetic: the kernel's looked-up table rows are the reference's result. The kernel projects
  all 1000 rows first and looks the projected rows up; the reference looks up first and projects. At (p, c) both are
  Σ_k silu(e[t[p], k]) · w[c, k] + b[c].
-/
module

public import proofs.«01_k».proof.Proof.IdealSetup
public import proofs.«01_k».proof.Proof.RefValue
public import Idealize.ShloMosaic.Lib.ValueLayout

@[expose] public section

noncomputable section

namespace Cert.Proof.KernelIdeal

open Cert.KernelIdeal Cert.KernelIdeal.Gen
open Idealize.ShloMosaic
open Idealize.ShloMosaic.ValueIdx (ix1 ix2)
open Cert.Proof.RefValue (silu refV refV_apply)

/-- The kernel's product contracts the two operands' first axes: at (r, c) it is Σ_k lhs[k, r] · rhs[k, c]. -/
theorem proj_apply (prec : Option ContractPrecision) (l : FVec Ideal S64x1000 .f32) (w : FVec Ideal S64x128 .f32)
    (acc : FVec Ideal S1000x128 .f32) (r : Fin 1000) (c : Fin 128) :
    FloatOps.matmul dot_S64x1000_S64x128_S1000x128_0_0_1_1_n_n prec l w acc (ix2 r c)
      = acc (ix2 r c) + ∑ k : Fin 64, l (ix2 k r) * w (ix2 k c) := by
  let D := dot_S64x1000_S64x128_S1000x128_0_0_1_1_n_n
  rw [Ideal.matmul_apply, ← Equiv.sum_comp (ValueIdx.contrEquiv1 D 64 rfl rfl).symm]
  refine congrArg (acc (ix2 r c) + ·) (Finset.sum_congr rfl fun k _ => ?_)
  have hk := ValueIdx.contrEquiv1_symm_val D 64 rfl rfl k
  have hl : D.lhsIdx (ix2 r c) ((ValueIdx.contrEquiv1 D 64 rfl rfl).symm k) = ix2 k r := by
    funext a
    refine Fin.ext ?_
    match a with
    | ⟨0, _⟩ => exact hk
    | ⟨1, _⟩ => rfl
  have hw : D.rhsIdx (ix2 r c) ((ValueIdx.contrEquiv1 D 64 rfl rfl).symm k) = ix2 k c := by
    funext a
    refine Fin.ext ?_
    match a with
    | ⟨0, _⟩ => exact hk
    | ⟨1, _⟩ => rfl
  exact congrArg₂ (fun i j => l i * w j) hl hw

/-- The table at (r, c): Σ_k silu(e[r, k]) · w[c, k] + b[c]. -/
theorem tabV_apply (e : FVec Ideal S1000x64 .f32) (w : FVec Ideal S128x64 .f32) (b : FVec Ideal S128 .f32) (r : Fin 1000)
    (c : Fin 128) :
    tabV e w b (ix2 r c) = (∑ k : Fin 64, silu (e (ix2 r k)) * w (ix2 c k)) + b (ix1 c) := by
  unfold tabV k0_pay1
  simp only [shapeCast_self]
  rw [ValueIdx.addf_apply]
  have hb : broadcastTo S1000x128 (shapeCast S1x128 b shapeCasts_S128_S1x128) broadcasts_S1x128_S1000x128 (ix2 r c) = b (ix1 c) :=
    (ValueIdx.broadcastTo_1b_ab_apply _ _ r c).trans (ValueIdx.shapeCast_a_1a_apply b _ 0 c)
  rw [hb]
  refine congrArg (· + b (ix1 c)) ((proj_apply _ _ _ _ r c).trans ?_)
  have h0 : (constant (F := Ideal) S1000x128 .f32 0x00000000#32) (ix2 r c) = (0 : EReal) := Ideal.ofBits_zero_f32
  rw [h0, zero_add]
  refine Finset.sum_congr rfl fun k _ => ?_
  have he : transpose S64x1000 [1, 0] e transposes_S1000x64_S64x1000_1_0 (ix2 k r) = e (ix2 r k) :=
    transpose_apply _ e _ (ix2 k r) (ix2 r k) fun a => by
      match a with
      | ⟨0, _⟩ => rfl
      | ⟨1, _⟩ => rfl
  have hw : transpose S64x128 [1, 0] w transposes_S128x64_S64x128_1_0 (ix2 k c) = w (ix2 c k) :=
    transpose_apply _ w _ (ix2 k c) (ix2 c k) fun a => by
      match a with
      | ⟨0, _⟩ => rfl
      | ⟨1, _⟩ => rfl
  exact congrArg₂ (fun x y => silu x * y) he hw

/-- The table's rows that in-range indices name are the reference's result. -/
theorem lookV_eq_refV (t : IVec S16384 32) (e : FVec Ideal S1000x64 .f32) (w : FVec Ideal S128x64 .f32)
    (b : FVec Ideal S128 .f32) (h : ∀ x, (t x).toNat < 1000) : lookV (F := Ideal) t (tabV e w b) = refV t e w b := by
  funext j
  obtain ⟨p, c, rfl⟩ : ∃ p c, j = ix2 p c := ⟨_, _, ValueIdx.eq_ix2 j⟩
  rw [refV_apply t e w b h p c]
  have hi : ixIx p = ix1 p := by
    funext a
    match a with
    | 0 => rfl
  have hx : tabIx (rowOf (t (ixIx p))) c = ix2 ⟨(t (ix1 p)).toNat, h _⟩ c := by
    rw [hi]
    funext a
    match a with
    | 0 => exact Fin.ext (rowOf_val (h _))
    | 1 => rfl
  show tabV e w b (tabIx (rowOf (t (ixIx p))) c) = _
  rw [hx]
  exact tabV_apply e w b _ c

end Cert.Proof.KernelIdeal

end
-- ==== Proof.lean ====
/-
  The five claims of Defs.lean. Both programs' launches are Proof/IdealLaunch.lean and Proof/BitsLaunch.lean (one proof, at
  each program's own declarations); the precondition is read by Proof/Range.lean; the equation of the kernel's result and
  the reference's is Proof/Equation.lean. The reference is host operations only: its run is the generated one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.IdealLaunch
public import proofs.«01_k».proof.Proof.BitsLaunch
public import proofs.«01_k».proof.Proof.Range
public import proofs.«01_k».proof.Proof.Equation
public import Idealize.ShloMosaic.Lib.Quiescent

@[expose] public section

noncomputable section

namespace Cert.Proof

open Idealize.ShloMosaic Idealize.SL.Sem

/-- The kernel's printed program, on words: it runs from any in-range indices, its arguments end as they began, and every
    semaphore ends at zero. -/
theorem frame_kernel : Cert.quiescent_Kernel := fun m g hp =>
  (θ_run Cert.Kernel.defs _ _).mono
    (fun _ h => ⟨fun c => ⟨(h.1 c).1, (h.1 c).2.1, (h.1 c).2.2.1, (h.1 c).2.2.2.1⟩, h.2⟩)
    (Kernel.run_main (F := Bits) m g fun d x => Range.toNat_lt_of_pre _ _ _ _ (hp d) x)

/-- The same of the idealized program, with exact arithmetic. -/
theorem frame_kernelIdeal : Cert.quiescent_KernelIdeal := fun m g hp =>
  (θ_run Cert.KernelIdeal.defs _ _).mono
    (fun _ h => ⟨fun c => ⟨(h.1 c).1, (h.1 c).2.1, (h.1 c).2.2.1, (h.1 c).2.2.2.1⟩, h.2⟩)
    (KernelIdeal.run_main (F := Ideal) m g fun d x => Range.toNat_lt_of_pre _ _ _ _ (hp d) x)

/-- The reference's run, from any memory: its arguments end as they began, and it has no semaphore. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩ fun r =>
        (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m g)

/-- The two runs end with equal results: the projected table's rows the indices name are the projection of the rows they
    name. -/
theorem equal_results : Cert.algebraic_KernelIdeal_ReferenceIdeal := by
  intro m g m' g' hp hagree
  have hr : KernelIdeal.InRange (F := Ideal) m := fun d x => Range.toNat_lt_of_pre _ _ _ _ (hp d) x
  refine ⟨fun c => KernelIdeal.outG (F := Ideal) m c,
    (θ_run Cert.KernelIdeal.defs _ _).mono
      (fun _ h c => ⟨(h.1 c).2.2.2.2, (h.1 c).1, (h.1 c).2.1, (h.1 c).2.2.1, (h.1 c).2.2.2.1⟩)
      (KernelIdeal.run_main (F := Ideal) m g hr),
    (θ_run Cert.ReferenceIdeal.defs _ _).mono (fun _ h c => ⟨(h c).1.trans ?_, (h c).2⟩)
      (Cert.ReferenceIdeal.Value.run (F := Ideal) m' g')⟩
  obtain ⟨h0, h1, h2, h3⟩ := hagree c
  rw [h0, h1, h2, h3]
  exact (KernelIdeal.lookV_eq_refV _ _ _ _ (hr c)).symm

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_kernelIdeal, fun m g _ => reference_quiescent m g, fun m g _ => reference_quiescent m g,
    trivial, equal_results⟩

end Cert.Proof

end
